-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v3)) (v2 : (c : Dev Cert.KernelIdeal.nD) → Buf (Elt Ideal) ((c.tc : Thread Cert.KernelIdeal.nD Cert.KernelIdeal.τ).loc Cert.KernelIdeal.main_v4)) (v3 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_v4) = v2 c
          ∧ r.2.mem ((c.tc : Thread Cert.KernelIdeal.nD Cert.KernelIdeal.τ).loc Cert.KernelIdeal.main_v5) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_v35) = v1 c
          ∧ r.2.mem ((c.tc : Thread Cert.ReferenceIdeal.nD Cert.ReferenceIdeal.τ).loc Cert.ReferenceIdeal.main_v12) = v2 c
          ∧ r.2.mem ((c.tc : Thread Cert.ReferenceIdeal.nD Cert.ReferenceIdeal.τ).loc Cert.ReferenceIdeal.main_v27) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x128x3072 : Shape := ⟨3, ![2, 128, 3072]⟩
abbrev S1536x10240 : Shape := ⟨2, ![1536, 10240]⟩
abbrev S24x10240 : Shape := ⟨2, ![24, 10240]⟩
abbrev S256x3072 : Shape := ⟨2, ![256, 3072]⟩
abbrev S256x10240 : Shape := ⟨2, ![256, 10240]⟩
abbrev S256x1536 : Shape := ⟨2, ![256, 1536]⟩
abbrev S256x24 : Shape := ⟨2, ![256, 24]⟩
abbrev S1536x1024 : Shape := ⟨2, ![1536, 1024]⟩
abbrev S24x1024 : Shape := ⟨2, ![24, 1024]⟩
abbrev S256x1024 : Shape := ⟨2, ![256, 1024]⟩
abbrev S256x128 : Shape := ⟨2, ![256, 128]⟩
abbrev S256 : Shape := ⟨1, ![256]⟩
abbrev S256x1 : Shape := ⟨2, ![256, 1]⟩
abbrev S256x256 : Shape := ⟨2, ![256, 256]⟩
abbrev S64x1024 : Shape := ⟨2, ![64, 1024]⟩
abbrev S64x1x1024 : Shape := ⟨3, ![64, 1, 1024]⟩
abbrev S64x2x1024 : Shape := ⟨3, ![64, 2, 1024]⟩
abbrev S128x1024 : Shape := ⟨2, ![128, 1024]⟩
abbrev S1x1024 : Shape := ⟨2, ![1, 1024]⟩
abbrev S3072x1024 : Shape := ⟨2, ![3072, 1024]⟩
abbrev S2x128x10240 : Shape := ⟨3, ![2, 128, 10240]⟩
abbrev S2x128x1536 : Shape := ⟨3, ![2, 128, 1536]⟩
abbrev S2x128x24 : Shape := ⟨3, ![2, 128, 24]⟩

abbrev nBuf : Space → Nat
  | .hbm => 13
  | .vmem => 13
  | .smem => 0
  | _ => 0

abbrev bufTy : (tb : Table) → Fin (tcTables nBuf tb) → BufTy
  | .hbm, ⟨0, _⟩ => ⟨S2x128x3072, .bf16⟩
  | .hbm, ⟨1, _⟩ => ⟨S1536x10240, .i8⟩
  | .hbm, ⟨2, _⟩ => ⟨S24x10240, .f32⟩
  | .hbm, ⟨3, _⟩ => ⟨S24x10240, .i8⟩
  | .hbm, ⟨4, _⟩ => ⟨S256x3072, .bf16⟩
  | .hbm, ⟨5, _⟩ => ⟨S256x10240, .bf16⟩
  | .hbm, ⟨6, _⟩ => ⟨S256x1536, .i8⟩
  | .hbm, ⟨7, _⟩ => ⟨S256x24, .f32⟩
  | .hbm, ⟨8, _⟩ => ⟨S256x24, .i8⟩
  | .hbm, ⟨9, _⟩ => ⟨S2x128x10240, .bf16⟩
  | .hbm, ⟨10, _⟩ => ⟨S2x128x1536, .i8⟩
  | .hbm, ⟨11, _⟩ => ⟨S2x128x24, .f32⟩
  | .hbm, ⟨12, _⟩ => ⟨S2x128x24, .i8⟩
  | .local _ .vmem, ⟨0, _⟩ => ⟨S256x3072, .bf16⟩
  | .local _ .vmem, ⟨1, _⟩ => ⟨S1536x1024, .i8⟩
  | .local _ .vmem, ⟨2, _⟩ => ⟨S1536x1024, .i8⟩
  | .local _ .vmem, ⟨3, _⟩ => ⟨S24x1024, .f32⟩
  | .local _ .vmem, ⟨4, _⟩ => ⟨S24x1024, .f32⟩
  | .local _ .vmem, ⟨5, _⟩ => ⟨S24x1024, .i8⟩
  | .local _ .vmem, ⟨6, _⟩ => ⟨S24x1024, .i8⟩
  | .local _ .vmem, ⟨7, _⟩ => ⟨S256x1024, .bf16⟩
  | .local _ .vmem, ⟨8, _⟩ => ⟨S256x1024, .bf16⟩
  | .local _ .vmem, ⟨9, _⟩ => ⟨S256x1536, .i8⟩
  | .local _ .vmem, ⟨10, _⟩ => ⟨S256x24, .f32⟩
  | .local _ .vmem, ⟨11, _⟩ => ⟨S256x24, .i8⟩
  | .local _ .vmem, ⟨12, _⟩ => ⟨S256x3072, .bf16⟩
  | _, _ => ⟨S2x128x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_scratch0 : Ref sig .tc := ⟨.vmem, 12, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11

abbrev nD : Nat := 1
abbrev τ : Topo := Topo.v7x

variable {F : FTy → Type} [FloatOps F]

abbrev grid0 : Pipeline.Grid := ⟨1, ![10], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x3072 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1536x1024 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S24x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S24x1024 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S256x1536 .i8 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x24 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x24 .i8 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ReferenceIdeal.lean ====
abbrev S2x128x3072 : Shape := ⟨3, ![2, 128, 3072]⟩
abbrev S1536x10240 : Shape := ⟨2, ![1536, 10240]⟩
abbrev S24x10240 : Shape := ⟨2, ![24, 10240]⟩
abbrev S2x128x24x128 : Shape := ⟨4, ![2, 128, 24, 128]⟩
abbrev S_ : Shape := ⟨0, ![]⟩
abbrev S2x128x24 : Shape := ⟨3, ![2, 128, 24]⟩
abbrev S2x128x24x1 : Shape := ⟨4, ![2, 128, 24, 1]⟩
abbrev S2x128x1536 : Shape := ⟨3, ![2, 128, 1536]⟩
abbrev S256x1536x2 : Shape := ⟨3, ![256, 1536, 2]⟩
abbrev S256x2x1536 : Shape := ⟨3, ![256, 2, 1536]⟩
abbrev S24x64x10240 : Shape := ⟨3, ![24, 64, 10240]⟩
abbrev S24x1x10240 : Shape := ⟨3, ![24, 1, 10240]⟩
abbrev S1x24x64x10240 : Shape := ⟨4, ![1, 24, 64, 10240]⟩
abbrev S2x24x64x10240 : Shape := ⟨4, ![2, 24, 64, 10240]⟩
abbrev S1x24x1x10240 : Shape := ⟨4, ![1, 24, 1, 10240]⟩
abbrev S2x1536x10240 : Shape := ⟨3, ![2, 1536, 10240]⟩
abbrev S256x10240 : Shape := ⟨2, ![256, 10240]⟩
abbrev S2x128x10240 : Shape := ⟨3, ![2, 128, 10240]⟩

abbrev nBuf : Space → Nat
  | .hbm => 95
  | .vmem => 0
  | .smem => 0
  | _ => 0

abbrev bufTy : (tb : Table) → Fin (tcTables nBuf tb) → BufTy
  | .hbm, ⟨0, _⟩ => ⟨S2x128x3072, .bf16⟩
  | .hbm, ⟨1, _⟩ => ⟨S1536x10240, .i8⟩
  | .hbm, ⟨2, _⟩ => ⟨S24x10240, .f32⟩
  | .hbm, ⟨3, _⟩ => ⟨S24x10240, .i8⟩
  | .hbm, ⟨4, _⟩ => ⟨S2x128x3072, .f32⟩
  | .hbm, ⟨5, _⟩ => ⟨S2x128x24x128, .f32⟩
  | .hbm, ⟨6, _⟩ => ⟨S_, .f32⟩
  | .hbm, ⟨7, _⟩ => ⟨S2x128x24, .f32⟩
  | .hbm, ⟨8, _⟩ => ⟨S_, .f32⟩
  | .hbm, ⟨9, _⟩ => ⟨S2x128x24, .f32⟩
  | .hbm, ⟨10, _⟩ => ⟨S2x128x24, .f32⟩
  | .hbm, ⟨11, _⟩ => ⟨S_, .f32⟩
  | .hbm, ⟨12, _⟩ => ⟨S2x128x24, .f32⟩
  | .hbm, ⟨13, _⟩ => ⟨S_, .f32⟩
  | .hbm, ⟨14, _⟩ => ⟨S2x128x24, .f32⟩
  | .hbm, ⟨15, _⟩ => ⟨S2x128x24, .f32⟩
  | .hbm, ⟨16, _⟩ => ⟨S2x128x24, .i1⟩
  | .hbm, ⟨17, _⟩ => ⟨S2x128x24, .f32⟩
  | .hbm, ⟨18, _⟩ => ⟨S_, .f32⟩
  | .hbm, ⟨19, _⟩ => ⟨S2x128x24, .f32⟩
  | .hbm, ⟨20, _⟩ => ⟨S2x128x24, .f32⟩
  | .hbm, ⟨21, _⟩ => ⟨S_, .f32⟩
  | .hbm, ⟨22, _⟩ => ⟨S_, .f32⟩
  | .hbm, ⟨23, _⟩ => ⟨S2x128x24, .f32⟩
  | .hbm, ⟨24, _⟩ => ⟨S2x128x24, .f32⟩
  | .hbm, ⟨25, _⟩ => ⟨S2x128x24, .f32⟩
  | .hbm, ⟨26, _⟩ => ⟨S2x128x24, .f32⟩
  | .hbm, ⟨27, _⟩ => ⟨S2x128x24, .f32⟩
  | .hbm, ⟨28, _⟩ => ⟨S2x128x24x1, .f32⟩
  | .hbm, ⟨29, _⟩ => ⟨S2x128x24x128, .f32⟩
  | .hbm, ⟨30, _⟩ => ⟨S2x128x24x128, .f32⟩
  | .hbm, ⟨31, _⟩ => ⟨S2x128x24x128, .f32⟩
  | .hbm, ⟨32, _⟩ => ⟨S2x128x24x1, .f32⟩
  | .hbm, ⟨33, _⟩ => ⟨S2x128x24x128, .f32⟩
  | .hbm, ⟨34, _⟩ => ⟨S2x128x24x128, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S2x128x24x128, .f32⟩
  | .hbm, ⟨39, _⟩ => ⟨S2x128x24x128, .f32⟩
  | .hbm, ⟨40, _⟩ => ⟨S_, .f32⟩
  | .hbm, ⟨41, _⟩ => ⟨S2x128x24x128, .f32⟩
  | .hbm, ⟨42, _⟩ => ⟨S2x128x24x128, .f32⟩
  | .hbm, ⟨43, _⟩ => ⟨S2x128x24x128, .i32⟩
  | .hbm, ⟨44, _⟩ => ⟨S2x128x24x128, .i8⟩
  | .hbm, ⟨45, _⟩ => ⟨S2x128x24, .i32⟩
  | .hbm, ⟨46, _⟩ => ⟨S2x128x24, .i8⟩
  | .hbm, ⟨47, _⟩ => ⟨S2x128x24x128, .i32⟩
  | .hbm, ⟨48, _⟩ => ⟨S2x128x3072, .i32⟩
  | .hbm, ⟨49, _⟩ => ⟨S2x128x1536, .i32⟩
  | .hbm, ⟨50, _⟩ => ⟨S2x128x1536, .i32⟩
  | .hbm, ⟨51, _⟩ => ⟨S_, .i32⟩
  | .hbm, ⟨52, _⟩ => ⟨S2x128x1536, .i32⟩
  | .hbm, ⟨53, _⟩ => ⟨S2x128x1536, .i32⟩
  | .hbm, ⟨54, _⟩ => ⟨S2x128x1536, .i32⟩
  | .hbm, ⟨55, _⟩ => ⟨S2x128x1536, .i8⟩
  | .hbm, ⟨56, _⟩ => ⟨S2x128x24x128, .i32⟩
  | .hbm, ⟨57, _⟩ => ⟨S2x128x24, .i32⟩
  | .hbm, ⟨58, _⟩ => ⟨S2x128x24x1, .i32⟩
  | .hbm, ⟨59, _⟩ => ⟨S2x128x24x128, .i32⟩
  | .hbm, ⟨60, _⟩ => ⟨S2x128x24x128, .i32⟩
  | .hbm, ⟨61, _⟩ => ⟨S2x128x24x128, .bf16⟩
  | .hbm, ⟨62, _⟩ => ⟨S2x128x24, .bf16⟩
  | .hbm, ⟨63, _⟩ => ⟨S2x128x24x1, .bf16⟩
  | .hbm, ⟨64, _⟩ => ⟨S2x128x24x128, .bf16⟩
  | .hbm, ⟨65, _⟩ => ⟨S2x128x24x128, .bf16⟩
  | .hbm, ⟨66, _⟩ => ⟨S256x1536x2, .bf16⟩
  | .hbm, ⟨67, _⟩ => ⟨S256x2x1536, .bf16⟩
  | .hbm, ⟨68, _⟩ => ⟨S1536x10240, .i32⟩
  | .hbm, ⟨69, _⟩ => ⟨S24x64x10240, .i32⟩
  | .hbm, ⟨70, _⟩ => ⟨S24x10240, .i32⟩
  | .hbm, ⟨71, _⟩ => ⟨S24x10240, .bf16⟩
  | .hbm, ⟨72, _⟩ => ⟨S24x1x10240, .bf16⟩
  | .hbm, ⟨73, _⟩ => ⟨S24x10240, .bf16⟩
  | .hbm, ⟨74, _⟩ => ⟨S24x1x10240, .bf16⟩
  | .hbm, ⟨75, _⟩ => ⟨S_, .i32⟩
  | .hbm, ⟨76, _⟩ => ⟨S24x64x10240, .i32⟩
  | .hbm, ⟨77, _⟩ => ⟨S24x64x10240, .i32⟩
  | .hbm, ⟨78, _⟩ => ⟨S_, .i32⟩
  | .hbm, ⟨79, _⟩ => ⟨S24x64x10240, .i32⟩
  | .hbm, ⟨80, _⟩ => ⟨S24x64x10240, .i32⟩
  | .hbm, ⟨81, _⟩ => ⟨S1x24x64x10240, .i32⟩
  | .hbm, ⟨82, _⟩ => ⟨S1x24x64x10240, .i32⟩
  | .hbm, ⟨83, _⟩ => ⟨S2x24x64x10240, .i32⟩
  | .hbm, ⟨84, _⟩ => ⟨S2x24x64x10240, .bf16⟩
  | .hbm, ⟨85, _⟩ => ⟨S1x24x1x10240, .bf16⟩
  | .hbm, ⟨86, _⟩ => ⟨S2x24x64x10240, .bf16⟩
  | .hbm, ⟨87, _⟩ => ⟨S2x24x64x10240, .bf16⟩
  | .hbm, ⟨88, _⟩ => ⟨S1x24x1x10240, .bf16⟩
  | .hbm, ⟨89, _⟩ => ⟨S2x24x64x10240, .bf16⟩
  | .hbm, ⟨90, _⟩ => ⟨S2x24x64x10240, .bf16⟩
  | .hbm, ⟨91, _⟩ => ⟨S2x1536x10240, .bf16⟩
  | .hbm, ⟨92, _⟩ => ⟨S256x10240, .f32⟩
  | .hbm, ⟨93, _⟩ => ⟨S256x10240, .bf16⟩
  | .hbm, ⟨94, _⟩ => ⟨S2x128x10240, .bf16⟩
  | _, _ => ⟨S2x128x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_call0_v0 : Ref sig .tc := ⟨.hbm, 22, rfl⟩
abbrev main_call0_v1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_5 : Ref sig .tc := ⟨.hbm, 35, rfl⟩
abbrev main_cst_6 : Ref sig .tc := ⟨.hbm, 36, rfl⟩
abbrev main_call3_v0 : Ref sig .tc := ⟨.hbm, 37, rfl⟩
abbrev main_call3_v1 : Ref sig .tc := ⟨.hbm, 38, rfl⟩
abbrev main_call3_v2 : Ref sig .tc := ⟨.hbm, 39, rfl⟩
abbrev main_call3_v3 : Ref sig .tc := ⟨.hbm, 40, rfl⟩
abbrev main_call3_v4 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_c : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_c_7 : Ref sig .tc := ⟨.hbm, 75, rfl⟩
abbrev main_v55 : Ref sig .tc := ⟨.hbm, 76, rfl⟩
abbrev main_v56 : Ref sig .tc := ⟨.hbm, 77, rfl⟩
abbrev main_c_8 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩

abbrev nD : Nat := 1
abbrev τ : Topo := Topo.v7x

variable {F : FTy → Type} [FloatOps F]
-- ==== Proof.Body.Setup.lean ====
/- The kernel body's two cases, stated over the generated frame kit: the condition of its one branch in closed form, where
   the output windows 5, 6 and 7 (codes, scales and zero points) are stored, and the staging memrefs and the scratch operand
   the runs of the body are stated over. -/
module

public import proofs.«01_k».proof.Proof.Gen.KernelIdeal.Frame
public import proofs.«01_k».proof.Proof.Gen.KernelIdeal.Skeleton
public import proofs.«01_k».proof.Proof.Gen.KernelIdeal.Launch
public import proofs.«01_k».proof.Proof.Gen.KernelIdeal.Points
public import Idealize.ShloMosaic.Lib.Tactic
public import Idealize.ShloMosaic.Lib.Ring
public import Idealize.ShloMosaic.Lib.WordCmp
public import Idealize.ShloMosaic.Lib.Pipeline.TableIdle
public import Idealize.ShloMosaic.Lib.Pipeline.Value

@[expose] public section

-- membership in a rectangle of production extents (`View.cover_of_tiled`): the elaborator's structural look
-- recurses once per coordinate of the long axes
set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 10 = 0 :=
  (fun t => by
    have ht : t.val < 10 := Nat.lt_of_lt_of_eq t.isLt N_0
    have e0 : (grid0.coords t 0).val = t.val / 1 % 10 := Pipeline.Grid.coords_val t 0 (by decide) rfl
    simp only [cond0_0, k0_cond1, e0]
    word_cmp
   : ∀ t : Fin grid0.N, cond0_0 (grid0.coords t) ↔ t.val % 10 = 0)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an output stored at every point, under no condition). -/
theorem liveAt0_4 : ∀ t : Fin cfg0.N, cfg0.idle 4 (grid0.coords t) = false := fun _ => rfl
/-- At the points of case A the printed configuration (`Cfg.idle`) calls output 5 live: the case stores into it. -/
theorem liveAt0_5_A : ∀ t : Fin cfg0.N, cond0_0 (grid0.coords t) → cfg0.idle 5 (grid0.coords t) = false := by decide +kernel
/-- At the points of case B the printed configuration (`Cfg.idle`) calls output 5 idle: the case stores nothing into it. -/
theorem idleAt0_5_B : ∀ t : Fin cfg0.N, ¬cond0_0 (grid0.coords t) → cfg0.idle 5 (grid0.coords t) = true := by decide +kernel
/-- After the first point the staging buffer of output 5 is no longer a fresh one: it holds what the first point stored. -/
theorem kept0_5 : ∀ t : Fin cfg0.N, t.val ≠ 0 → cfg0.fresh 5 t.val = false := by decide +kernel
/-- At the points of case A the printed configuration (`Cfg.idle`) calls output 6 live: the case stores into it. -/
theorem liveAt0_6_A : ∀ t : Fin cfg0.N, cond0_0 (grid0.coords t) → cfg0.idle 6 (grid0.coords t) = false := by decide +kernel
/-- At the points of case B the printed configuration (`Cfg.idle`) calls output 6 idle: the case stores nothing into it. -/
theorem idleAt0_6_B : ∀ t : Fin cfg0.N, ¬cond0_0 (grid0.coords t) → cfg0.idle 6 (grid0.coords t) = true := by decide +kernel
/-- After the first point the staging buffer of output 6 is no longer a fresh one: it holds what the first point stored. -/
theorem kept0_6 : ∀ t : Fin cfg0.N, t.val ≠ 0 → cfg0.fresh 6 t.val = false := by decide +kernel
/-- At the points of case A the printed configuration (`Cfg.idle`) calls output 7 live: the case stores into it. -/
theorem liveAt0_7_A : ∀ t : Fin cfg0.N, cond0_0 (grid0.coords t) → cfg0.idle 7 (grid0.coords t) = false := by decide +kernel
/-- At the points of case B the printed configuration (`Cfg.idle`) calls output 7 idle: the case stores nothing into it. -/
theorem idleAt0_7_B : ∀ t : Fin cfg0.N, ¬cond0_0 (grid0.coords t) → cfg0.idle 7 (grid0.coords t) = true := by decide +kernel
/-- After the first point the staging buffer of output 7 is no longer a fresh one: it holds what the first point stored. -/
theorem kept0_7 : ∀ t : Fin cfg0.N, t.val ≠ 0 → cfg0.fresh 7 t.val = false := by decide +kernel

/-! ## The kernel body on any staging memrefs: a subtype the run finds -/

/-- One staging buffer of output window 4, through which its contents are stated (`View.read_writes_of_cover`: the
    choice does not matter). -/
abbrev VO0_4 : View sig .tc .vmem S256x1024 .bf16 := (Memref.whole cc0_stg4_0 : Memref sig .tc .vmem S256x1024 .bf16).view
/-- One staging buffer of output window 5, through which its contents are stated (`View.read_writes_of_cover`: the
    choice does not matter). -/
abbrev VO0_5 : View sig .tc .vmem S256x1536 .i8 := (Memref.whole cc0_stg5_0 : Memref sig .tc .vmem S256x1536 .i8).view
/-- One staging buffer of output window 6, through which its contents are stated (`View.read_writes_of_cover`: the
    choice does not matter). -/
abbrev VO0_6 : View sig .tc .vmem S256x24 .f32 := (Memref.whole cc0_stg6_0 : Memref sig .tc .vmem S256x24 .f32).view
/-- One staging buffer of output window 7, through which its contents are stated (`View.read_writes_of_cover`: the
    choice does not matter). -/
abbrev VO0_7 : View sig .tc .vmem S256x24 .i8 := (Memref.whole cc0_stg7_0 : Memref sig .tc .vmem S256x24 .i8).view
/-- Each window's current staging memref at point `t`, spelled as the pipeline passes it (`bodyAt0`), and its wholeness. -/
abbrev ms0_0 (t : Fin cfg0.N) : Memref sig .tc .vmem S256x3072 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1536x1024 .i8 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S24x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S24x1024 .i8 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x1024 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x1536 .i8 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S256x24 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S256x24 .i8 := win0_7.stage (cfg0.slots t 7)
abbrev hs0_7 (t : Fin cfg0.N) : (ms0_7 t).IsWhole := hstage0_7 ((cfg0.slots t 7).cast nbuf0_7)
/-- The scratch operands: whole scoped buffers of the kernel's own, passed beside the windows. -/
abbrev scM0_0 : Memref sig .tc .vmem S256x3072 .bf16 := Memref.whole cc0_scratch0
/-- The scratch `arg9` the kernel carries between points, as a view: what it holds is stated through it. -/
abbrev VS0_0 : View sig .tc .vmem S256x3072 .bf16 := scM0_0.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Body

end
-- ==== Proof.Body.Tiles.lean ====
/- An array stored one tile of 128 columns after another, and what it then holds. -/
module

public import proofs.«01_k».proof.Proof.Body.Setup
public import Idealize.ShloMosaic.Lib.ValueIdx

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A tile of 128 columns lies inside the array. -/
theorem colRect_inb {n N : ℕ} (hN : N = 128 * n) (g : Fin n) (a : Fin (⟨2, ![256, N]⟩ : Shape).rank) :
    (![0, 128 * g.val] : Fin 2 → ℕ) a + S256x128.size a ≤ (⟨2, ![256, N]⟩ : Shape).size a := by
  have hg := g.isLt
  match a with
  | ⟨0, _⟩ => show 0 + 256 ≤ 256; omega
  | ⟨1, _⟩ => show 128 * g.val + 128 ≤ N; omega

/-- The `g`-th tile of 128 columns of a 256-row array of `128 n` columns. -/
def colRect {n N : ℕ} (hN : N = 128 * n) (g : Fin n) : Rect (⟨2, ![256, N]⟩ : Shape) :=
  Rect.unit (s := ⟨2, ![256, N]⟩) ![0, 128 * g.val] S256x128.size (colRect_inb hN g)

/-- An index of the array, as the tile that holds it and the place inside that tile. -/
def tileOf {n N : ℕ} (hN : N = 128 * n) (y : (⟨2, ![256, N]⟩ : Shape).Idx) : Fin n :=
  ⟨(y 1).val / 128, by have h : (y 1).val < N := (y 1).isLt; omega⟩

/-- The place of an index inside its tile. -/
def inTile {N : ℕ} (y : (⟨2, ![256, N]⟩ : Shape).Idx) : S256x128.Idx :=
  ValueIdx.ix2 (n0 := 256) (n1 := 128) (y 0) ⟨(y 1).val % 128, Nat.mod_lt _ (by decide)⟩

/-- The stores of one tile of columns after another, the last first. -/
def colPieces {e : EltTy} {n N : ℕ} (hN : N = 128 * n) (P : Fin n → S256x128.Idx → Elt F e) :
    List (View.Piece (Elt F) (⟨2, ![256, N]⟩ : Shape) e) :=
  (List.ofFn fun g : Fin n => (⟨colRect hN g, P g⟩ : View.Piece (Elt F) (⟨2, ![256, N]⟩ : Shape) e)).reverse

theorem colRect_tileOf {n N : ℕ} (hN : N = 128 * n) (g : Fin n) (x : S256x128.Idx) :
    tileOf hN ((colRect hN g).emb x) = g := by
  apply Fin.ext
  have hx : (x 1).val < 128 := (x 1).isLt
  have h : (((colRect hN g).emb x) 1).val = 128 * g.val + 1 * (x 1).val := rfl
  simp only [tileOf, h]; omega

theorem colRect_inTile {n N : ℕ} (hN : N = 128 * n) (g : Fin n) (x : S256x128.Idx) :
    inTile ((colRect hN g).emb x) = x := by
  have hx : (x 1).val < 128 := (x 1).isLt
  have h : (((colRect hN g).emb x) 1).val = 128 * g.val + 1 * (x 1).val := rfl
  have h0 : (((colRect hN g).emb x) 0).val = 0 + 1 * (x 0).val := rfl
  funext a
  match a with
  | ⟨0, _⟩ => exact Fin.ext (h0.trans (show 0 + 1 * (x 0).val = (x 0).val by omega))
  | ⟨1, _⟩ => exact Fin.ext ((congrArg (· % 128) h).trans (show (128 * g.val + 1 * (x 1).val) % 128 = (x 1).val by omega))

/-- The tiles of columns cover the array. -/
theorem colPieces_cover {e : EltTy} {n N : ℕ} (hN : N = 128 * n) (P : Fin n → S256x128.Idx → Elt F e)
    (y : (⟨2, ![256, N]⟩ : Shape).Idx) : ∃ p ∈ colPieces hN P, y ∈ p.1.set := by
  refine ⟨⟨colRect hN (tileOf hN y), P (tileOf hN y)⟩, ?_, ?_⟩
  · exact List.mem_reverse.mpr (List.mem_ofFn.mpr ⟨tileOf hN y, rfl⟩)
  · refine (Rect.mem_set_unit (inb := (colRect_inb hN (tileOf hN y)))).mpr fun a => ?_
    have h1 : (y 1).val < N := (y 1).isLt
    match a with
    | ⟨0, _⟩ =>
      have h0 : (y 0).val < 256 := (y 0).isLt
      show 0 ≤ (y 0).val ∧ (y 0).val < 0 + 256; omega
    | ⟨1, _⟩ => show 128 * ((y 1).val / 128) ≤ (y 1).val ∧ (y 1).val < 128 * ((y 1).val / 128) + 128; omega

/-- A tile's store agrees with the array read tile by tile. -/
theorem colPieces_agree {e : EltTy} {n N : ℕ} (hN : N = 128 * n) (P : Fin n → S256x128.Idx → Elt F e) (g : Fin n)
    (x : S256x128.Idx) : P g x = P (tileOf hN ((colRect hN g).emb x)) (inTile ((colRect hN g).emb x)) := by
  rw [colRect_tileOf, colRect_inTile]

/-- What an array holds after every tile of columns has been stored: at each index the value of its own tile. -/
theorem colPieces_canon {e : EltTy} {n N : ℕ} (hN : N = 128 * n) (P : Fin n → S256x128.Idx → Elt F e) :
    View.canon (colPieces hN P) = fun y => P (tileOf hN y) (inTile y) := by
  funext y
  refine View.canon_apply_of_pieces (fun y => P (tileOf hN y) (inTile y)) _ ?_ y (colPieces_cover hN P y)
  intro p hp x
  obtain ⟨g, rfl⟩ := List.mem_ofFn.mp (List.mem_reverse.mp hp)
  exact colPieces_agree hN P g x

end Cert.KernelIdeal.Body

end
-- ==== Proof.Body.Group.lean ====
/- What the kernel body computes, said once for every group of 128 columns: a group's scale, zero point, codes and dequantised
   activations, the weight block's groups dequantised, and the arrays these make up. -/
module

public import proofs.«01_k».proof.Proof.Body.Tiles

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The array of 3072 columns is 24 tiles of 128 columns, -/
theorem h3072 : 3072 = 128 * 24 := rfl
/-- and the array of 1536 columns is 12 of them. -/
theorem h1536 : 1536 = 128 * 12 := rfl

/-- The 128 columns of `x` that make up group `g`. -/
def grp (x : Vec F S256x3072 .bf16) (g : Fin 24) : Vec F S256x128 .bf16 := View.ld x (colRect h3072 g)

/-- A group's scale, row by row. -/
def scaleG (v : Vec F S256x128 .bf16) : Vec F S256x1 .f32 := k0_pay6 v
/-- A group's zero point, row by row. -/
def zeroG (v : Vec F S256x128 .bf16) : Vec F S256x1 .f32 := k0_pay7 v
/-- A group's codes. -/
def codeG (v : Vec F S256x128 .bf16) : Vec F S256x128 .f32 := k0_pay9 (k0_pay7 v) (k0_pay8 v)
/-- A group's dequantised activations. -/
def actG (v : Vec F S256x128 .bf16) : Vec F S256x128 .bf16 := k0_pay10 (k0_pay6 v) (k0_pay7 v) (k0_pay8 v)

/-- The two groups of a chunk packed, two codes to a byte, by a product with the matrix of the weights 1 and 16. -/
def packG (v w : Vec F S256x128 .bf16) : Vec F S256x128 .i8 :=
  trunci 8 (fptosi 32 (matmul dot_S256x256_S256x128_S256x128_1_0_0_1_n_n none
    (concatenate S256x256 1 [⟨S256x128, truncf .bf16 (codeG v) bitsLt_bf16_f32⟩, ⟨S256x128, truncf .bf16 (codeG w) bitsLt_bf16_f32⟩]
      concatenates_S256x128_S256x128_S256x256_d1 : FVec F S256x256 .bf16)
    (k0_pay3 : FVec F S256x128 .bf16) (constant S256x128 .f32 0x00000000#32))) natLt_8_32

/-- The dequantised activations, group by group. -/
def actArr (x : Vec F S256x3072 .bf16) : Vec F S256x3072 .bf16 :=
  fun y => actG (grp x (tileOf h3072 y)) (inTile y)

/-- The first group of chunk `k`, -/
def fstOf (k : Fin 12) : Fin 24 := ⟨2 * k.val, by omega⟩
/-- and its second. -/
def sndOf (k : Fin 12) : Fin 24 := ⟨2 * k.val + 1, by omega⟩

/-- The packed codes, chunk by chunk. -/
def codesArr (x : Vec F S256x3072 .bf16) : Vec F S256x1536 .i8 :=
  fun y => packG (grp x (fstOf (tileOf h1536 y))) (grp x (sndOf (tileOf h1536 y))) (inTile y)

/-- One group's column entered into a table that holds a column per group. -/
def enter (n : ℕ) (s : FVec F S256x1 .f32) (acc : FVec F S256x24 .f32) : FVec F S256x24 .f32 :=
  select (cmpi .eq (iota .tc S256x24 32 [1] iota_S256x24_d1_w32) (broadcast S256x24 (BitVec.ofNat 32 n)))
    (broadcastTo S256x24 (shapeCast S256x1 s shapeCasts_S256x1_S256x1) broadcasts_S256x1_S256x24) acc

/-- The table after the columns of the first `n` groups have been entered. -/
def table (s : Fin 24 → FVec F S256x1 .f32) : ℕ → FVec F S256x24 .f32
  | 0 => broadcast S256x24 (Scalar.ofBits .f32 0x00000000#32)
  | n + 1 => enter n (s (Fin.ofNat 24 n)) (table s n)

/-- The scales, a column per group. -/
def scalesArr (x : Vec F S256x3072 .bf16) : Vec F S256x24 .f32 := table (fun g => scaleG (grp x g)) 24

/-- The zero points, a column per group. -/
def zerosArr (x : Vec F S256x3072 .bf16) : Vec F S256x24 .i8 :=
  trunci 8 (fptosi 32 (table (fun g => zeroG (grp x g)) 24)) natLt_8_32

/-- The 64 packed rows of the weight block that make up group `g`. -/
theorem rowRect_inb (g : Fin 24) (a : Fin S1536x1024.rank) :
    (![64 * g.val, 0] : Fin 2 → ℕ) a + S64x1024.size a ≤ S1536x1024.size a := by
  have hg := g.isLt
  match a with
  | ⟨0, _⟩ => show 64 * g.val + 64 ≤ 1536; omega
  | ⟨1, _⟩ => show 0 + 1024 ≤ 1024; omega

def packedG (w : Vec F S1536x1024 .i8) (g : Fin 24) : Vec F S64x1024 .i8 :=
  View.ld w (Rect.unit (s := S1536x1024) ![64 * g.val, 0] S64x1024.size (rowRect_inb g))

/-- Row `g` of the block of scales or zero points is a slice of it. -/
theorem slicesRow (g : Fin 24) : S24x1024.Slices ![g.val, 0] S1x1024 := by
  revert g; decide

/-- A group of the weight block dequantised: its nibbles, less the group's zero points, times the group's scales. -/
def weightG (ws wz : FVec F S24x1024 .bf16) (p : Vec F S64x1024 .i8) (g : Fin 24) : FVec F S128x1024 .bf16 :=
  mulf (subf (sitofp .bf16 (shapeCast S128x1024 (concatenate S64x2x1024 1
      [⟨S64x1x1024, shapeCast S64x1x1024 (andi (extui 32 p natLt_8_32) (broadcast S64x1024 15#32)) shapeCasts_S64x1024_S64x1x1024⟩,
       ⟨S64x1x1024, shapeCast S64x1x1024 (shrsi (extui 32 p natLt_8_32) (broadcast S64x1024 4#32)) shapeCasts_S64x1024_S64x1x1024⟩]
      concatenates_S64x1x1024_S64x1x1024_S64x2x1024_d1 : IVec S64x2x1024 32) shapeCasts_S64x2x1024_S128x1024))
    (broadcastTo S128x1024 (extractStridedSlice S1x1024 ![g.val, 0] wz (slicesRow g)) broadcasts_S1x1024_S128x1024))
    (broadcastTo S128x1024 (extractStridedSlice S1x1024 ![g.val, 0] ws (slicesRow g)) broadcasts_S1x1024_S128x1024)

/-- The weight block dequantised: the groups one below the other. -/
def weightArr (w : Vec F S1536x1024 .i8) (s : Vec F S24x1024 .f32) (z : Vec F S24x1024 .i8) : FVec F S3072x1024 .bf16 :=
  concatenate S3072x1024 0 (List.ofFn fun g : Fin 24 => (⟨S128x1024, weightG (k0_pay257 s) (k0_pay258 z) (packedG w g) g⟩ : (s : Shape) × (s.Idx → F .bf16)))
    concatenates_S128x1024_S128x1024_S128x1024_S128x1024_S128x1024_S128x1024_S128x1024_S128x1024_S128x1024_S128x1024_S128x1024_S128x1024_S128x1024_S128x1024_S128x1024_S128x1024_S128x1024_S128x1024_S128x1024_S128x1024_S128x1024_S128x1024_S128x1024_S128x1024_S3072x1024_d0

/-- A block of the result: the dequantised activations times the dequantised weight block. -/
def outBlk (a : Vec F S256x3072 .bf16) (w : Vec F S1536x1024 .i8) (s : Vec F S24x1024 .f32) (z : Vec F S24x1024 .i8) : Vec F S256x1024 .bf16 :=
  k0_pay294 (weightArr w s z) a

end Cert.KernelIdeal.Body

end
-- ==== Proof.Body.RunA.lean ====
/- The kernel body run at the grid's first point, where the branch that quantises the activations is taken. -/
module

public import proofs.«01_k».proof.Proof.Body.Setup

@[expose] public section

-- membership in a rectangle of production extents (`View.cover_of_tiled`): the elaborator's structural look
-- recurses once per coordinate of the long axes
set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1168000 in
/-- What the body's stores leave in each output's staging memref, as pieces (last first) IN CASE A (`scf.if` 0 taken: points 0), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg1 : Memref sig .tc .vmem S256x3072 .bf16) (harg1 : arg1.IsWhole) (arg2 : Memref sig .tc .vmem S1536x1024 .i8) (harg2 : arg2.IsWhole) (arg3 : Memref sig .tc .vmem S24x1024 .f32) (harg3 : arg3.IsWhole) (arg4 : Memref sig .tc .vmem S24x1024 .i8) (harg4 : arg4.IsWhole) (arg5 : Memref sig .tc .vmem S256x1024 .bf16) (harg5 : arg5.IsWhole) (arg6 : Memref sig .tc .vmem S256x1536 .i8) (harg6 : arg6.IsWhole) (arg7 : Memref sig .tc .vmem S256x24 .f32) (harg7 : arg7.IsWhole) (arg8 : Memref sig .tc .vmem S256x24 .i8) (harg8 : arg8.IsWhole) (arg9 : Memref sig .tc .vmem S256x3072 .bf16) (harg9 : arg9.IsWhole) (hc0 : cond0_0 i)
    (x0 : Vec F S256x3072 .bf16) (x1 : Vec F S1536x1024 .i8) (x2 : Vec F S24x1024 .f32) (x3 : Vec F S24x1024 .i8) :
    Σ' (L4 : List (View.Piece (Elt F) S256x1024 .bf16)), Σ' (L5 : List (View.Piece (Elt F) S256x1536 .i8)), Σ' (L6 : List (View.Piece (Elt F) S256x24 .f32)), Σ' (L7 : List (View.Piece (Elt F) S256x24 .i8)), { LS0 : List (View.Piece (Elt F) S256x3072 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f LS0)) -∗ K ⟨⟩))
          ⊢ wp frame (wpE (defs₀ (F := F)) Variants.none c none) E (cc0_w4a4_linear i arg1 harg1 arg2 harg2 arg3 harg3 arg4 harg4 arg5 harg5 arg6 harg6 arg7 harg7 arg8 harg8 arg9 harg9) K } := by
  refine ⟨?_, ?_, ?_, ?_, ?_, fun E K => ?run⟩
  case run =>
    simp only [cc0_w4a4_linear_eq_skeleton]; unfold cc0_w4a4_linear_skel
    simp only [k0_part38_eq_skeleton, k0_part30_eq_skeleton, k0_part29_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part31_eq_skeleton, k0_part32_eq_skeleton, k0_part33_eq_skeleton, k0_part34_eq_skeleton, k0_part35_eq_skeleton, k0_part36_eq_skeleton, k0_part37_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%ds0, %fs0, -, HS0⟩, Hk⟩
    obtain rfl := harg1.eq_unread hf0; obtain rfl := harg2.eq_unread hf1; obtain rfl := harg3.eq_unread hf2; obtain rfl := harg4.eq_unread hf3
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [H6]; · iexists _; iexact H6
    isplitl [H7]; · iexists _; iexact H7
    iexists _; iexact HS0

end Cert.KernelIdeal.Body

end
-- ==== Proof.Body.PiecesA.lean ====
/- The stores of the first step are those of the arrays it computes. -/
module

public import proofs.«01_k».proof.Proof.Body.Group
public import proofs.«01_k».proof.Proof.Body.RunA

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (c : Dev nD) (i : grid0.Coords) (arg1 : Memref sig .tc .vmem S256x3072 .bf16) (harg1 : arg1.IsWhole) (arg2 : Memref sig .tc .vmem S1536x1024 .i8) (harg2 : arg2.IsWhole) (arg3 : Memref sig .tc .vmem S24x1024 .f32) (harg3 : arg3.IsWhole) (arg4 : Memref sig .tc .vmem S24x1024 .i8) (harg4 : arg4.IsWhole) (arg5 : Memref sig .tc .vmem S256x1024 .bf16) (harg5 : arg5.IsWhole) (arg6 : Memref sig .tc .vmem S256x1536 .i8) (harg6 : arg6.IsWhole) (arg7 : Memref sig .tc .vmem S256x24 .f32) (harg7 : arg7.IsWhole) (arg8 : Memref sig .tc .vmem S256x24 .i8) (harg8 : arg8.IsWhole) (arg9 : Memref sig .tc .vmem S256x3072 .bf16) (harg9 : arg9.IsWhole)

/-- The first step stores the activations one group after another. -/
theorem scratch_A (hc0 : cond0_0 i) (x0 : Vec F S256x3072 .bf16) (x1 : Vec F S1536x1024 .i8) (x2 : Vec F S24x1024 .f32) (x3 : Vec F S24x1024 .i8) :
    (kernelRun0_A c i arg1 harg1 arg2 harg2 arg3 harg3 arg4 harg4 arg5 harg5 arg6 harg6 arg7 harg7 arg8 harg8 arg9 harg9 hc0 x0 x1 x2 x3).2.2.2.2.1
      = colPieces h3072 fun g => actG (grp x0 g) := by
  refine Eq.trans (b := colPieces h3072 fun g => actG (grp (arg1.view.read (Elt F) (harg1.unread x0)) g)) ?_ (by rw [harg1.read_unread])
  unfold kernelRun0_A; dsimp only; sl_unfold_words
  rfl

/-- It stores the packed codes one chunk after another, -/
theorem codes_A (hc0 : cond0_0 i) (x0 : Vec F S256x3072 .bf16) (x1 : Vec F S1536x1024 .i8) (x2 : Vec F S24x1024 .f32) (x3 : Vec F S24x1024 .i8) :
    (kernelRun0_A c i arg1 harg1 arg2 harg2 arg3 harg3 arg4 harg4 arg5 harg5 arg6 harg6 arg7 harg7 arg8 harg8 arg9 harg9 hc0 x0 x1 x2 x3).2.1
      = colPieces h1536 fun k => packG (grp x0 (fstOf k)) (grp x0 (sndOf k)) := by
  refine Eq.trans (b := colPieces h1536 fun k => packG (grp (arg1.view.read (Elt F) (harg1.unread x0)) (fstOf k)) (grp (arg1.view.read (Elt F) (harg1.unread x0)) (sndOf k))) ?_ (by rw [harg1.read_unread])
  unfold kernelRun0_A; dsimp only; sl_unfold_words
  rfl

/-- the table of the scales whole, -/
theorem scales_A (hc0 : cond0_0 i) (x0 : Vec F S256x3072 .bf16) (x1 : Vec F S1536x1024 .i8) (x2 : Vec F S24x1024 .f32) (x3 : Vec F S24x1024 .i8) :
    (kernelRun0_A c i arg1 harg1 arg2 harg2 arg3 harg3 arg4 harg4 arg5 harg5 arg6 harg6 arg7 harg7 arg8 harg8 arg9 harg9 hc0 x0 x1 x2 x3).2.2.1
      = [⟨Rect.unit ![0, 0] ![256, 24] inb_S256x24_S256x24_0_0, scalesArr x0⟩] := by
  refine Eq.trans (b := [⟨Rect.unit ![0, 0] ![256, 24] inb_S256x24_S256x24_0_0, scalesArr (arg1.view.read (Elt F) (harg1.unread x0))⟩]) ?_ (by rw [harg1.read_unread])
  unfold kernelRun0_A; dsimp only; sl_unfold_words
  rfl

/-- and the table of the zero points whole. -/
theorem zeros_A (hc0 : cond0_0 i) (x0 : Vec F S256x3072 .bf16) (x1 : Vec F S1536x1024 .i8) (x2 : Vec F S24x1024 .f32) (x3 : Vec F S24x1024 .i8) :
    (kernelRun0_A c i arg1 harg1 arg2 harg2 arg3 harg3 arg4 harg4 arg5 harg5 arg6 harg6 arg7 harg7 arg8 harg8 arg9 harg9 hc0 x0 x1 x2 x3).2.2.2.1
      = [⟨Rect.unit ![0, 0] ![256, 24] inb_S256x24_S256x24_0_0, zerosArr x0⟩] := by
  refine Eq.trans (b := [⟨Rect.unit ![0, 0] ![256, 24] inb_S256x24_S256x24_0_0, zerosArr (arg1.view.read (Elt F) (harg1.unread x0))⟩]) ?_ (by rw [harg1.read_unread])
  unfold kernelRun0_A; dsimp only; sl_unfold_words
  rfl

end

end Cert.KernelIdeal.Body

end
-- ==== Proof.Body.RunB.lean ====
/- The kernel body run at a later grid point, where only the matrix product is computed. -/
module

public import proofs.«01_k».proof.Proof.Body.RunA

@[expose] public section

-- membership in a rectangle of production extents (`View.cover_of_tiled`): the elaborator's structural look
-- recurses once per coordinate of the long axes
set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE B (`scf.if` 0 not taken: points 1, 2, … 9: 9 of 10), WITH the
    proof that on whole staging memrefs — the inputs' at their contents, the outputs it leaves idle (5, 6, 7: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg1 : Memref sig .tc .vmem S256x3072 .bf16) (harg1 : arg1.IsWhole) (arg2 : Memref sig .tc .vmem S1536x1024 .i8) (harg2 : arg2.IsWhole) (arg3 : Memref sig .tc .vmem S24x1024 .f32) (harg3 : arg3.IsWhole) (arg4 : Memref sig .tc .vmem S24x1024 .i8) (harg4 : arg4.IsWhole) (arg5 : Memref sig .tc .vmem S256x1024 .bf16) (harg5 : arg5.IsWhole) (arg6 : Memref sig .tc .vmem S256x1536 .i8) (harg6 : arg6.IsWhole) (arg7 : Memref sig .tc .vmem S256x24 .f32) (harg7 : arg7.IsWhole) (arg8 : Memref sig .tc .vmem S256x24 .i8) (harg8 : arg8.IsWhole) (arg9 : Memref sig .tc .vmem S256x3072 .bf16) (harg9 : arg9.IsWhole) (hc0 : ¬cond0_0 i)
    (x0 : Vec F S256x3072 .bf16) (x1 : Vec F S1536x1024 .i8) (x2 : Vec F S24x1024 .f32) (x3 : Vec F S24x1024 .i8) (xs0 : Vec F S256x3072 .bf16) :
    Σ' (L4 : List (View.Piece (Elt F) S256x1024 .bf16)), Σ' (L5 : List (View.Piece (Elt F) S256x1536 .i8)), Σ' (L6 : List (View.Piece (Elt F) S256x24 .f32)), Σ' (L7 : List (View.Piece (Elt F) S256x24 .i8)), { LS0 : List (View.Piece (Elt F) S256x3072 .bf16) //
      ∀ (xi5 : Vec F S256x1536 .i8) (xi6 : Vec F S256x24 .f32) (xi7 : Vec F S256x24 .i8) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xi5 ∗ owns (c : Thread nD τ) arg7 fullShare xi6 ∗ owns (c : Thread nD τ) arg8 fullShare xi7 ∗ owns (c : Thread nD τ) arg9 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ owns (c : Thread nD τ) arg6 fullShare xi5 ∗ owns (c : Thread nD τ) arg7 fullShare xi6 ∗ owns (c : Thread nD τ) arg8 fullShare xi7 ∗ owns (c : Thread nD τ) arg9 fullShare xs0) -∗ K ⟨⟩))
          ⊢ wp frame (wpE (defs₀ (F := F)) Variants.none c none) E (cc0_w4a4_linear i arg1 harg1 arg2 harg2 arg3 harg3 arg4 harg4 arg5 harg5 arg6 harg6 arg7 harg7 arg8 harg8 arg9 harg9) K } := by
  refine ⟨?_, [], [], [], [], fun xi5 xi6 xi7 E K => ?run⟩
  case run =>
    simp only [cc0_w4a4_linear_eq_skeleton]; unfold cc0_w4a4_linear_skel
    simp only [k0_part38_eq_skeleton, k0_part30_eq_skeleton, k0_part31_eq_skeleton, k0_part32_eq_skeleton, k0_part33_eq_skeleton, k0_part34_eq_skeleton, k0_part35_eq_skeleton, k0_part36_eq_skeleton, k0_part37_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%f7, %hf7, H7⟩, ⟨%fs0, %hfs0, HS0⟩, Hk⟩
    obtain rfl := harg1.eq_unread hf0; obtain rfl := harg2.eq_unread hf1; obtain rfl := harg3.eq_unread hf2; obtain rfl := harg4.eq_unread hf3; obtain rfl := harg6.eq_unread hf5; obtain rfl := harg7.eq_unread hf6; obtain rfl := harg8.eq_unread hf7; obtain rfl := harg9.eq_unread hfs0
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    iexists _; isplitr; · ipureintro; exact harg9.read_unread _
    iexact HS0

end Cert.KernelIdeal.Body

end
-- ==== Proof.Body.PiecesW.lean ====
/- The weight block the body forms, and the block of the result it stores. -/
module

public import proofs.«01_k».proof.Proof.Body.Group
public import proofs.«01_k».proof.Proof.Body.RunA
public import proofs.«01_k».proof.Proof.Body.RunB

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (c : Dev nD) (i : grid0.Coords) (arg1 : Memref sig .tc .vmem S256x3072 .bf16) (harg1 : arg1.IsWhole) (arg2 : Memref sig .tc .vmem S1536x1024 .i8) (harg2 : arg2.IsWhole) (arg3 : Memref sig .tc .vmem S24x1024 .f32) (harg3 : arg3.IsWhole) (arg4 : Memref sig .tc .vmem S24x1024 .i8) (harg4 : arg4.IsWhole) (arg5 : Memref sig .tc .vmem S256x1024 .bf16) (harg5 : arg5.IsWhole) (arg6 : Memref sig .tc .vmem S256x1536 .i8) (harg6 : arg6.IsWhole) (arg7 : Memref sig .tc .vmem S256x24 .f32) (harg7 : arg7.IsWhole) (arg8 : Memref sig .tc .vmem S256x24 .i8) (harg8 : arg8.IsWhole) (arg9 : Memref sig .tc .vmem S256x3072 .bf16) (harg9 : arg9.IsWhole)

/-- The weight block the first step forms is the one dequantised group by group. -/
theorem weight_A (x0 : Vec F S256x3072 .bf16) (x1 : Vec F S1536x1024 .i8) (x2 : Vec F S24x1024 .f32) (x3 : Vec F S24x1024 .i8) :
    kernelRun0_A.sl.v417 c arg2 harg2 arg3 harg3 arg4 harg4 x1 x2 x3 = weightArr x1 x2 x3 := by
  refine Eq.trans (b := weightArr (arg2.view.read (Elt F) (harg2.unread x1)) (View.ld (arg3.view.read (Elt F) (harg3.unread x2)) (Rect.unit ![0, 0] S24x1024.size inb_S24x1024_S24x1024_0_0)) (View.ld (arg4.view.read (Elt F) (harg4.unread x3)) (Rect.unit ![0, 0] S24x1024.size inb_S24x1024_S24x1024_0_0))) ?_ ?_
  · sl_unfold_words
    rfl
  · rw [harg2.read_unread, harg3.read_unread, harg4.read_unread, View.ld_unit_zero (by funext a; fin_cases a <;> rfl), View.ld_unit_zero (by funext a; fin_cases a <;> rfl)]

/-- The later steps form the same block. -/
theorem weight_B (x0 : Vec F S256x3072 .bf16) (x1 : Vec F S1536x1024 .i8) (x2 : Vec F S24x1024 .f32) (x3 : Vec F S24x1024 .i8) :
    kernelRun0_B.sl.v417 c arg2 harg2 arg3 harg3 arg4 harg4 x1 x2 x3 = weightArr x1 x2 x3 := by
  refine Eq.trans (b := weightArr (arg2.view.read (Elt F) (harg2.unread x1)) (View.ld (arg3.view.read (Elt F) (harg3.unread x2)) (Rect.unit ![0, 0] S24x1024.size inb_S24x1024_S24x1024_0_0)) (View.ld (arg4.view.read (Elt F) (harg4.unread x3)) (Rect.unit ![0, 0] S24x1024.size inb_S24x1024_S24x1024_0_0))) ?_ ?_
  · sl_unfold_words
    rfl
  · rw [harg2.read_unread, harg3.read_unread, harg4.read_unread, View.ld_unit_zero (by funext a; fin_cases a <;> rfl), View.ld_unit_zero (by funext a; fin_cases a <;> rfl)]

/-- The first step's block of the result is the product of the activations it has stored and the weight block. -/
theorem out_A (hc0 : cond0_0 i) (x0 : Vec F S256x3072 .bf16) (x1 : Vec F S1536x1024 .i8) (x2 : Vec F S24x1024 .f32) (x3 : Vec F S24x1024 .i8) :
    (kernelRun0_A c i arg1 harg1 arg2 harg2 arg3 harg3 arg4 harg4 arg5 harg5 arg6 harg6 arg7 harg7 arg8 harg8 arg9 harg9 hc0 x0 x1 x2 x3).1 = [⟨Rect.unit ![0, 0] ![256, 1024] inb_S256x1024_S256x1024_0_0, outBlk (actArr x0) x1 x2 x3⟩] := by
  have hs : kernelRun0_A.sl.v418 c arg1 harg1 arg9 x0 = actArr x0 := by
    refine Eq.trans (b := actArr (arg1.view.read (Elt F) (harg1.unread x0))) ?_ (by rw [harg1.read_unread])
    refine Eq.trans (b := arg9.view.readCov (colPieces h3072 fun g => actG (grp (arg1.view.read (Elt F) (harg1.unread x0)) g))
      (Rect.unit ![0, 0] S256x3072.size inb_S256x3072_S256x3072_0_0).toLoadRect) ?_ ?_
    · sl_unfold_words
      rfl
    · rw [View.readCov_eq_canon_ld _ _ _ (colPieces_cover h3072 _), colPieces_canon, View.ld_unit_zero (by funext a; fin_cases a <;> rfl)]
      rfl
  have hw := weight_A c arg2 harg2 arg3 harg3 arg4 harg4 x0 x1 x2 x3
  unfold kernelRun0_A; dsimp only
  rw [hs, hw]; rfl

/-- A later step's is the product of the activations the scratch holds and the weight block. -/
theorem out_B (hc0 : ¬cond0_0 i) (x0 : Vec F S256x3072 .bf16) (x1 : Vec F S1536x1024 .i8) (x2 : Vec F S24x1024 .f32) (x3 : Vec F S24x1024 .i8) (xs0 : Vec F S256x3072 .bf16) :
    (kernelRun0_B c i arg1 harg1 arg2 harg2 arg3 harg3 arg4 harg4 arg5 harg5 arg6 harg6 arg7 harg7 arg8 harg8 arg9 harg9 hc0 x0 x1 x2 x3 xs0).1 = [⟨Rect.unit ![0, 0] ![256, 1024] inb_S256x1024_S256x1024_0_0, outBlk xs0 x1 x2 x3⟩] := by
  have hw := weight_B c arg2 harg2 arg3 harg3 arg4 harg4 x0 x1 x2 x3
  have hs : View.readAt (Elt F) arg9.view (Rect.unit ![0, 0] ![256, 3072] inb_S256x3072_S256x3072_0_0).toLoadRect (harg9.unread xs0) = xs0 := by
    refine Eq.trans (b := View.ld (arg9.view.read (Elt F) (harg9.unread xs0)) (Rect.unit ![0, 0] S256x3072.size inb_S256x3072_S256x3072_0_0)) rfl ?_
    rw [harg9.read_unread, View.ld_unit_zero (by funext a; fin_cases a <;> rfl)]
  unfold kernelRun0_B; dsimp only
  rw [hs, hw]; rfl

end

end Cert.KernelIdeal.Body

end
-- ==== Proof.Body.Frame.lean ====
/- The run of the whole program: what every step leaves, the body's obligation, and the frame. -/
module

public import proofs.«01_k».proof.Proof.Body.PiecesA
public import proofs.«01_k».proof.Proof.Body.PiecesW
public import Idealize.ShloMosaic.Lib.Claim

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A whole-block store, read back, is its payload. -/
theorem read_whole {s : Shape} {e : EltTy} {sp : Space} (v : View sig .tc sp s e) {off : Fin s.rank → ℕ} (h : off = fun _ => 0)
    (inb : ∀ a, off a + s.size a ≤ s.size a) (X : s.Idx → Elt F e) (f : v.ty.Contents (Elt F)) :
    v.read (Elt F) (v.writes (Elt F) f [⟨Rect.unit off s.size inb, X⟩]) = X := by
  subst h
  rw [View.read_writes_eq_canon v f _ (fun y => ⟨_, List.mem_singleton_self _, by
    show y ∈ (Rect.whole s).set; rw [Rect.set_whole]; exact Finset.mem_univ y⟩), View.canon_unit_zero rfl]

/-- Stores of one tile of columns after another, read back. -/
theorem read_cols {e : EltTy} {n N : ℕ} {sp : Space} (hN : N = 128 * n) (P : Fin n → S256x128.Idx → Elt F e)
    (v : View sig .tc sp (⟨2, ![256, N]⟩ : Shape) e) (f : v.ty.Contents (Elt F)) :
    v.read (Elt F) (v.writes (Elt F) f (colPieces hN P)) = fun y => P (tileOf hN y) (inTile y) := by
  rw [View.read_writes_eq_canon v f _ (colPieces_cover hN P), colPieces_canon]

/-- The whole of `x`, as the first step finds it. -/
def xAll (c : Dev nD) : Vec F S256x3072 .bf16 := iblk m c 0 ⟨0, by decide⟩

/-- The region invariant before position `n`: before the first point the scratch at anything; afterwards the scratch at the
    dequantised activations, and the generator register at some state. -/
def PhiS (c : Dev nD) : ℕ → sProp 𝕄
  | 0 => Pipeline.ΦA spec0 c
  | n + 1 => iprop(iprop(owns (c : Thread nD τ) scM0_0 fullShare (actArr (xAll m c))) ∗ (∃ r, prngReg c r))

theorem PhiS_zero (c : Dev nD) (n : ℕ) (hz : n = 0) : PhiS m c n = Pipeline.ΦA spec0 c := by
  subst hz; rfl

theorem PhiS_pos (c : Dev nD) (n : ℕ) (hz : n ≠ 0) :
    PhiS m c n = iprop(iprop(owns (c : Thread nD τ) scM0_0 fullShare (actArr (xAll m c))) ∗ (∃ r, prngReg c r)) := by
  cases n with
  | zero => exact absurd rfl hz
  | succ n => rfl

/-! ## The pipeline's proof data -/

/-- The proof data of the one pipeline on core `c`: the arrays as the region finds them (`V`); after the body at point `t`
    each input's buffer at its block, the result's at its block of the product, and the other three results' at what the
    first step stored. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outBlk (actArr (xAll m c)) (iblk m c 1 t) (iblk m c 2 t) (iblk m c 3 t)
    | ⟨5, _⟩ => codesArr (xAll m c)
    | ⟨6, _⟩ => scalesArr (xAll m c)
    | ⟨7, _⟩ => zerosArr (xAll m c)
  Φ t := PhiS m c t.val
  q _ := fullShare
  owed _ := 0

/-- The proof data's arrays are the region-entry contents. -/
theorem A_eq (c : Dev nD) (w : Fin cfg0.W) : (dats m 0 c).A w = V m c (Pipeline.arrRef spec0 w) := by
  dsimp only [dats]

/-- The invariant at a point's start, restated at `t.val`. -/
theorem PhiS_castSucc (c : Dev nD) (t : Fin cfg0.N) : (dats m 0 c).Φ t.castSucc = PhiS m c t.val := by
  dsimp only [dats]; rfl

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = outBlk (actArr (xAll m c)) (iblk m c 1 t) (iblk m c 2 t) (iblk m c 3 t) := by dsimp only [dats]
theorem after0_5 (c : Dev nD) (t : Fin cfg0.N) : (dats m 0 c).after 5 t = codesArr (xAll m c) := by dsimp only [dats]
theorem after0_6 (c : Dev nD) (t : Fin cfg0.N) : (dats m 0 c).after 6 t = scalesArr (xAll m c) := by dsimp only [dats]
theorem after0_7 (c : Dev nD) (t : Fin cfg0.N) : (dats m 0 c).after 7 t = zerosArr (xAll m c) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- After the first point the buffers of the last three results hold what the first step stored: the later steps store
    nothing into them. -/
theorem before0_5 (c : Dev nD) (t : Fin cfg0.N) (hz : t.val ≠ 0) (d) : (dats m 0 c).before 5 t d = (dats m 0 c).after 5 t := by
  rw [Dat.before_out_traj (dats m 0 c) 5 rfl (fun _ _ => rfl) (fun _ _ _ _ => rfl) t.val t rfl d, kept0_5 t hz, if_neg Bool.false_ne_true, after0_5, after0_5]
theorem before0_6 (c : Dev nD) (t : Fin cfg0.N) (hz : t.val ≠ 0) (d) : (dats m 0 c).before 6 t d = (dats m 0 c).after 6 t := by
  rw [Dat.before_out_traj (dats m 0 c) 6 rfl (fun _ _ => rfl) (fun _ _ _ _ => rfl) t.val t rfl d, kept0_6 t hz, if_neg Bool.false_ne_true, after0_6, after0_6]
theorem before0_7 (c : Dev nD) (t : Fin cfg0.N) (hz : t.val ≠ 0) (d) : (dats m 0 c).before 7 t d = (dats m 0 c).after 7 t := by
  rw [Dat.before_out_traj (dats m 0 c) 7 rfl (fun _ _ => rfl) (fun _ _ _ _ => rfl) t.val t rfl d, kept0_7 t hz, if_neg Bool.false_ne_true, after0_7, after0_7]

/-- A buffer the body left alone and that held what it should hold: it is left as required, written back or not. -/
theorem leaves_kept (c : Dev nD) (w : Fin cfg0.W) (t : Fin cfg0.N) (hi : cfg0.idle w (cfg0.grid.coords t) = true)
    (hb : ∀ d, (dats m 0 c).before w t d = (dats m 0 c).after w t) (d) :
    owns (c : Thread nD τ) ((cfg0.win w).stage (cfg0.slots t w)) fullShare ((dats m 0 c).before w t d) ⊢ (dats m 0 c).leavesExact w t := by
  cases hf : (cfg0.win w).flush t with
  | false =>
    rw [Dat.leavesExact_idle _ w t hi hf]
    iintro H; iexists _; iexact H
  | true =>
    rw [hb d]
    unfold Dat.leavesExact; rw [hi, hf]

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 6400000 in
/-- The body at any point: at the first it quantises `x` and forms its block of the product; at a later one it forms its block from
    the activations the scratch holds, and leaves the other three results alone. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) from rfl, PhiS_pos m c (t.val + 1) (Nat.succ_ne_zero _)]
  have hN : t.val < 10 := lt_of_lt_of_eq t.isLt (show cfg0.N = 10 from N_0)
  by_cases h0 : t.val % 10 = 0
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [show (dats m 0 c).leavesExact 5 t = owns (c : Thread nD τ) (ms0_5 t) fullShare ((dats m 0 c).after 5 t) from by
      unfold Dat.leavesExact; rw [liveAt0_5_A t ((hcond0_0 t).mpr h0)], after0_5]
    rw [show (dats m 0 c).leavesExact 6 t = owns (c : Thread nD τ) (ms0_6 t) fullShare ((dats m 0 c).after 6 t) from by
      unfold Dat.leavesExact; rw [liveAt0_6_A t ((hcond0_0 t).mpr h0)], after0_6]
    rw [show (dats m 0 c).leavesExact 7 t = owns (c : Thread nD τ) (ms0_7 t) fullShare ((dats m 0 c).after 7 t) from by
      unfold Dat.leavesExact; rw [liveAt0_7_A t ((hcond0_0 t).mpr h0)], after0_7]
    by_cases hz : t.val = 0
    · rw [PhiS_castSucc m c t, PhiS_zero m c _ hz, PhiA0_eq]
      have hx : xAll m c = iblk m c 0 t := by rw [show t = ⟨0, by decide⟩ from Fin.ext hz]; rfl
      rw [hx]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_A c (grid0.coords t) _ _ _ _ _ _ _ _ _ _ _ _ _ _ _ _ _ _ ((hcond0_0 t).mpr h0) (iblk m c 0 t) (iblk m c 1 t) (iblk m c 2 t) (iblk m c 3 t)).2.2.2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [H7]; · iexists _; iexact H7
      isplitl [HS0]; · iexact HS0
      iintro ⟨H0, H1, H2, H3, ⟨%e4, H4⟩, ⟨%e5, H5⟩, ⟨%e6, H6⟩, ⟨%e7, H7⟩, ⟨%es0, HS0⟩⟩
      isplitl [HS0 Hg]
      · isplitl [HS0]
        · unfold owns; iexists _; isplitr
          swap; · iexact HS0
          ipureintro; exact (congrArg _ (congrArg _ (scratch_A ..))).trans (read_cols h3072 _ _ _)
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact (congrArg _ (congrArg _ (out_A ..))).trans (read_whole _ (by funext a; fin_cases a <;> rfl) _ _ _)
      isplitl [H5]
      · unfold owns; iexists _; isplitr
        swap; · iexact H5
        ipureintro; exact (congrArg _ (congrArg _ (codes_A ..))).trans (read_cols h1536 _ _ _)
      isplitl [H6]
      · unfold owns; iexists _; isplitr
        swap; · iexact H6
        ipureintro; exact (congrArg _ (congrArg _ (scales_A ..))).trans (read_whole _ (by funext a; fin_cases a <;> rfl) _ _ _)
      unfold owns; iexists _; isplitr
      swap; · iexact H7
      ipureintro; exact (congrArg _ (congrArg _ (zeros_A ..))).trans (read_whole _ (by funext a; fin_cases a <;> rfl) _ _ _)
    · exfalso; have hN : t.val < 10 := lt_of_lt_of_eq t.isLt (show cfg0.N = 10 from N_0); omega
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    by_cases hz : t.val = 0
    · exfalso; have hN : t.val < 10 := lt_of_lt_of_eq t.isLt (show cfg0.N = 10 from N_0); omega
    · rw [PhiS_castSucc m c t, PhiS_pos m c _ hz]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_B c (grid0.coords t) _ _ _ _ _ _ _ _ _ _ _ _ _ _ _ _ _ _ (fun h => h0 ((hcond0_0 t).mp h)) (iblk m c 0 t) (iblk m c 1 t) (iblk m c 2 t) (iblk m c 3 t) _).2.2.2.2.2 _ _ _ Set.univ _)
      isplitl [H0]; · iexact H0
      isplitl [H1]; · iexact H1
      isplitl [H2]; · iexact H2
      isplitl [H3]; · iexact H3
      isplitl [H4]; · iexists _; iexact H4
      isplitl [H5]; · iexact H5
      isplitl [H6]; · iexact H6
      isplitl [H7]; · iexact H7
      isplitl [HS0]; · iexact HS0
      iintro ⟨H0, H1, H2, H3, ⟨%e4, H4⟩, H5, H6, H7, HS0⟩
      isplitl [HS0 Hg]
      · isplitl [HS0]
        · iexact HS0
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact (congrArg _ (congrArg _ (out_B ..))).trans (read_whole _ (by funext a; fin_cases a <;> rfl) _ _ _)
      isplitl [H5]; · iapply (leaves_kept m c 5 t (idleAt0_5_B t (fun h => h0 ((hcond0_0 t).mp h))) (before0_5 m c t hz) d5); iexact H5
      isplitl [H6]; · iapply (leaves_kept m c 6 t (idleAt0_6_B t (fun h => h0 ((hcond0_0 t).mp h))) (before0_6 m c t hz) d6); iexact H6
      iapply (leaves_kept m c 7 t (idleAt0_7_B t (fun h => h0 ((hcond0_0 t).mp h))) (before0_7 m c t hz) d7); iexact H7

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 from rfl, PhiS_zero m c 0 rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val from rfl, PhiS_pos m c _ ht, PhiA0_eq]
  iintro ⟨HS0, Hg⟩
  isplitl [HS0]
  · iexists _; iexact HS0
  iexact Hg

/-- The same after the last point. -/
theorem hout (c : Dev nD) : (dats m 0 c).Φ (Fin.last cfg0.N) ⊢ Pipeline.ΦA spec0 c :=
  Phi_out m c _ (by rw [Fin.val_last]; have : cfg0.N = 10 := N_0; omega)

/-! ## The run and the frame -/

-- `θ_run_frame_around_track`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the lines after the region leave it (Lib/Pipeline/Frame.lean `FramePost`). -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- The frame: every execution terminates with the arguments as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.KernelIdeal.Body

end
-- ==== Proof.Body.Results.lean ====
/- What the run leaves in the four results, and what each step reads of the arguments. -/
module

public import proofs.«01_k».proof.Proof.Body.Frame
public import Idealize.ShloMosaic.Lib.Pipeline.ValueKit.Point

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The step that computes column `n` of the result. -/
def stepOf (n : ℕ) : Fin cfg0.N := ⟨n / 1024 % 10, by rw [show cfg0.N = 10 from N_0]; omega⟩

/-- The result's array: column `n` is column `n % 1024` of the block of step `n / 1024`. -/
def yArr (c : Dev nD) : Vec F S256x10240 .bf16 := fun y =>
  outBlk (actArr (xAll m c)) (iblk m c 1 (stepOf (y 1).val)) (iblk m c 2 (stepOf (y 1).val))
    (iblk m c 3 (stepOf (y 1).val)) (ValueIdx.ix2 (y 0) ⟨(y 1).val % 1024, Nat.mod_lt _ (by decide)⟩)

/-- The step a block index names. -/
theorem index1 (t : Fin cfg0.N) : win0_1.index t 0 = 0 ∧ win0_1.index t 1 = t.val := by
  rcases fin_N0 t with rfl | rfl | rfl | rfl | rfl | rfl | rfl | rfl | rfl | rfl <;> decide +kernel

theorem index2 (t : Fin cfg0.N) : win0_2.index t 0 = 0 ∧ win0_2.index t 1 = t.val := by
  rcases fin_N0 t with rfl | rfl | rfl | rfl | rfl | rfl | rfl | rfl | rfl | rfl <;> decide +kernel

theorem index3 (t : Fin cfg0.N) : win0_3.index t 0 = 0 ∧ win0_3.index t 1 = t.val := by
  rcases fin_N0 t with rfl | rfl | rfl | rfl | rfl | rfl | rfl | rfl | rfl | rfl <;> decide +kernel

theorem index4 (t : Fin cfg0.N) : win0_4.index t 0 = 0 ∧ win0_4.index t 1 = t.val := by
  rcases fin_N0 t with rfl | rfl | rfl | rfl | rfl | rfl | rfl | rfl | rfl | rfl <;> decide +kernel

theorem index5 (t : Fin cfg0.N) : win0_5.index t 0 = 0 ∧ win0_5.index t 1 = 0 := by
  rcases fin_N0 t with rfl | rfl | rfl | rfl | rfl | rfl | rfl | rfl | rfl | rfl <;> decide +kernel

theorem index6 (t : Fin cfg0.N) : win0_6.index t 0 = 0 ∧ win0_6.index t 1 = 0 := by
  rcases fin_N0 t with rfl | rfl | rfl | rfl | rfl | rfl | rfl | rfl | rfl | rfl <;> decide +kernel

theorem index7 (t : Fin cfg0.N) : win0_7.index t 0 = 0 ∧ win0_7.index t 1 = 0 := by
  rcases fin_N0 t with rfl | rfl | rfl | rfl | rfl | rfl | rfl | rfl | rfl | rfl <;> decide +kernel

/-- After the run the result's array holds `yArr`. -/
theorem arr4 (c : Dev nD) : (dats m 0 c).arrAt 4 cfg0.N = yArr m c := by
  refine (dats m 0 c).arrAt_eq_of_covers 4 _ (by decide +kernel) fun t hf y => ?_
  blk_simp
  rw [after0_4]
  have e := index4 t
  have h1 : (((cfg0.win 4).blk t).view.emb y 1 : ℕ) = t.val * 1024 + (y 1).val := by
    blk_simp; rw [e.2]
  have h0 : (((cfg0.win 4).blk t).view.emb y 0 : ℕ) = (y 0).val := by
    blk_simp; rw [e.1]; omega
  have hy : (y 1).val < 1024 := (y 1).isLt
  have hN : t.val < 10 := lt_of_lt_of_eq t.isLt N_0
  have hs : stepOf ((win0_4.blk t).view.emb y 1).val = t := Fin.ext (by
    show _ / 1024 % 10 = _
    rw [show ((win0_4.blk t).view.emb y 1).val = t.val * 1024 + (y 1).val from h1]; omega)
  unfold yArr
  rw [hs]
  congr 1
  funext a
  apply Fin.ext
  match a with
  | ⟨0, _⟩ => exact h0.symm
  | ⟨1, _⟩ => show (y 1).val = (((cfg0.win 4).blk t).view.emb y 1 : ℕ) % 1024; rw [h1]; omega

/-- After the run the packed codes' array holds `codesArr`. -/
theorem arr5 (c : Dev nD) : (dats m 0 c).arrAt 5 cfg0.N = codesArr (xAll m c) := by
  refine (dats m 0 c).arrAt_eq_of_covers 5 _ (by decide +kernel) fun t hf y => ?_
  blk_simp
  rw [after0_5]
  have e := index5 t
  congr 1
  funext a
  apply Fin.ext
  match a with
  | ⟨0, _⟩ => blk_simp; rw [e.1]; omega
  | ⟨1, _⟩ => blk_simp; rw [e.2]; omega

/-- After the run the scales' array holds `scalesArr`. -/
theorem arr6 (c : Dev nD) : (dats m 0 c).arrAt 6 cfg0.N = scalesArr (xAll m c) := by
  refine (dats m 0 c).arrAt_eq_of_covers 6 _ (by decide +kernel) fun t hf y => ?_
  blk_simp
  rw [after0_6]
  have e := index6 t
  congr 1
  funext a
  apply Fin.ext
  match a with
  | ⟨0, _⟩ => blk_simp; rw [e.1]; omega
  | ⟨1, _⟩ => blk_simp; rw [e.2]; omega

/-- After the run the zero points' array holds `zerosArr`. -/
theorem arr7 (c : Dev nD) : (dats m 0 c).arrAt 7 cfg0.N = zerosArr (xAll m c) := by
  refine (dats m 0 c).arrAt_eq_of_covers 7 _ (by decide +kernel) fun t hf y => ?_
  blk_simp
  rw [after0_7]
  have e := index7 t
  congr 1
  funext a
  apply Fin.ext
  match a with
  | ⟨0, _⟩ => blk_simp; rw [e.1]; omega
  | ⟨1, _⟩ => blk_simp; rw [e.2]; omega

/-- The array the region reads as its first operand: the input with its two leading axes merged. -/
theorem V_main_v0 (c : Dev nD) : V m c main_v0
    = shapeCast S256x3072 (m ((c : Thread nD τ).loc main_arg0)) shapeCasts_S2x128x3072_S256x3072 := by
  show StableHlo.after hostOps0 (fun b => m (c, b)) (Proc.devRef .tc main_v0) = _
  unfold hostOps0
  after_results
  rfl

/-- The input array the region reads, at an index: row `r` is row `r % 128` of batch `r / 128`. -/
theorem xAll_apply (c : Dev nD) (r : Fin 256) (k : Fin 3072) :
    xAll m c (ValueIdx.ix2 r k) = m ((c : Thread nD τ).loc main_arg0)
      (ValueIdx.ix3 (⟨r.val / 128, by omega⟩ : Fin 2) (⟨r.val % 128, by omega⟩ : Fin 128) k) := by
  unfold xAll iblk
  rw [View.read_apply]
  show V m c main_v0 _ = _
  rw [V_main_v0]
  have e : win0_0.index ⟨0, by decide⟩ 0 = 0 ∧ win0_0.index ⟨0, by decide⟩ 1 = 0 := by decide +kernel
  refine shapeCast_apply _ _ _ _ ?_
  rw [Shape.rowMajor_val_two]
  refine (Shape.rowMajor_val_three (d := ![2, 128, 3072]) _).trans ?_
  show (r.val / 128 * 128 + r.val % 128) * 3072 + k.val
    = (win0_0.index ⟨0, _⟩ 0 * 256 + 1 * r.val) * 3072 + (win0_0.index ⟨0, _⟩ 1 * 3072 + 1 * k.val)
  rw [e.1, e.2]
  omega

/-- The packed weights step `t` reads: columns `1024 t` onwards. -/
theorem wBlk_apply (c : Dev nD) (t : Fin cfg0.N) (i : Fin 1536) (n : Fin 1024) (h : t.val * 1024 + n.val < 10240) :
    (iblk m c 1 t : Vec F S1536x1024 .i8) (ValueIdx.ix2 i n) = m ((c : Thread nD τ).loc main_arg1) (ValueIdx.ix2 i ⟨t.val * 1024 + n.val, h⟩) := by
  have e := index1 t
  unfold iblk
  rw [View.read_apply]
  show V m c main_arg1 _ = _
  rw [V_main_arg1]
  congr 1
  funext a
  apply Fin.ext
  match a with
  | ⟨0, _⟩ => show win0_1.index t 0 * 1536 + 1 * i.val = i.val; rw [e.1]; omega
  | ⟨1, _⟩ => show win0_1.index t 1 * 1024 + 1 * n.val = t.val * 1024 + n.val; rw [e.2]; omega

/-- The scales step `t` reads: columns `1024 t` onwards. -/
theorem sBlk_apply (c : Dev nD) (t : Fin cfg0.N) (i : Fin 24) (n : Fin 1024) (h : t.val * 1024 + n.val < 10240) :
    (iblk m c 2 t : Vec F S24x1024 .f32) (ValueIdx.ix2 i n) = m ((c : Thread nD τ).loc main_arg2) (ValueIdx.ix2 i ⟨t.val * 1024 + n.val, h⟩) := by
  have e := index2 t
  unfold iblk
  rw [View.read_apply]
  show V m c main_arg2 _ = _
  rw [V_main_arg2]
  congr 1
  funext a
  apply Fin.ext
  match a with
  | ⟨0, _⟩ => show win0_2.index t 0 * 24 + 1 * i.val = i.val; rw [e.1]; omega
  | ⟨1, _⟩ => show win0_2.index t 1 * 1024 + 1 * n.val = t.val * 1024 + n.val; rw [e.2]; omega

/-- The zero points step `t` reads: columns `1024 t` onwards. -/
theorem zBlk_apply (c : Dev nD) (t : Fin cfg0.N) (i : Fin 24) (n : Fin 1024) (h : t.val * 1024 + n.val < 10240) :
    (iblk m c 3 t : Vec F S24x1024 .i8) (ValueIdx.ix2 i n) = m ((c : Thread nD τ).loc main_arg3) (ValueIdx.ix2 i ⟨t.val * 1024 + n.val, h⟩) := by
  have e := index3 t
  unfold iblk
  rw [View.read_apply]
  show V m c main_arg3 _ = _
  rw [V_main_arg3]
  congr 1
  funext a
  apply Fin.ext
  match a with
  | ⟨0, _⟩ => show win0_3.index t 0 * 24 + 1 * i.val = i.val; rw [e.1]; omega
  | ⟨1, _⟩ => show win0_3.index t 1 * 1024 + 1 * n.val = t.val * 1024 + n.val; rw [e.2]; omega

/-- The windows' arrays are distinct. -/
theorem arrRef_inj : Function.Injective (Pipeline.arrRef spec0) := by decide

/-- The run: the four results as reshapes of the four arrays, the arguments unchanged. -/
theorem run_values : θ_run defs (onTc (τ := τ) (main (F := F))) ⟨m, fun _ => 0, ρ⟩ (fun r => ∀ c : Dev nD,
      r.2.mem ((c.tc : Thread nD τ).loc main_v2) = shapeCast S2x128x10240 (yArr m c) shapeCasts_S256x10240_S2x128x10240
      ∧ r.2.mem ((c.tc : Thread nD τ).loc main_v3) = shapeCast S2x128x1536 (codesArr (xAll m c)) shapeCasts_S256x1536_S2x128x1536
      ∧ r.2.mem ((c.tc : Thread nD τ).loc main_v4) = shapeCast S2x128x24 (scalesArr (xAll m c)) shapeCasts_S256x24_S2x128x24
      ∧ r.2.mem ((c.tc : Thread nD τ).loc main_v5) = shapeCast S2x128x24 (zerosArr (xAll m c)) shapeCasts_S256x24_S2x128x24) := by
  run_from run_main m ρ
  all_goals
    unfold Pipeline.afterTail₀
    dsimp only [hostOps1, List.flatten_cons, List.flatten_nil, List.append_nil, List.cons_append, List.nil_append]
    after_results
  · erw [Pipeline.withArrays_arr spec0 arrRef_inj c (V0 m c) (fun w => (dats m 0 c).arrAt w cfg0.N) 4, arr4]; rfl
  · erw [Pipeline.withArrays_arr spec0 arrRef_inj c (V0 m c) (fun w => (dats m 0 c).arrAt w cfg0.N) 5, arr5]; rfl
  · erw [Pipeline.withArrays_arr spec0 arrRef_inj c (V0 m c) (fun w => (dats m 0 c).arrAt w cfg0.N) 6, arr6]; rfl
  · erw [Pipeline.withArrays_arr spec0 arrRef_inj c (V0 m c) (fun w => (dats m 0 c).arrAt w cfg0.N) 7, arr7]; rfl

end Cert.KernelIdeal.Body

end
-- ==== Proof.Body.Scalar.lean ====
/- The quantiser of one group over the extended reals: its scale, its zero point, its codes. -/
module

public import Idealize.ShloMosaic.PureOps.Ideal.Laws
public import Idealize.ShloMosaic.Lib.IdealHost

@[expose] public section

set_option maxRecDepth 16384

noncomputable section

namespace Cert.Quant

open Idealize.ShloMosaic

/-- The word for +∞ is the top of the extended reals, -/
theorem bits_top : Ideal.ofBits .f32 0x7F800000#32 = (⊤ : EReal) := by
  simp [Ideal.ofBits, Ideal.ieee]
/-- the word for −∞ its bottom, -/
theorem bits_bot : Ideal.ofBits .f32 0xFF800000#32 = (⊥ : EReal) := by
  simp [Ideal.ofBits, Ideal.ieee]
/-- and the word for 15 is 15. -/
theorem bits_15 : Ideal.ofBits .f32 0x41700000#32 = ((15 : ℝ) : EReal) := by
  simp [Ideal.ofBits, Ideal.ieee, -EReal.coe_mul]; norm_num

/-- The least of a group's values and zero. -/
def lo (v : Fin 128 → EReal) : EReal := min (Finset.univ.fold min ⊤ v) 0
/-- The greatest of a group's values and zero. -/
def hi (v : Fin 128 → EReal) : EReal := max (Finset.univ.fold max ⊥ v) 0
/-- A group's scale: a fifteenth of its spread, or one where there is no spread. -/
def sc (v : Fin 128 → EReal) : EReal := if hi v = lo v then 1 else Ideal.div (hi v - lo v) ((15 : ℝ) : EReal)
/-- Rounding to the nearest integer, halves to the even one. -/
def rnd (x : EReal) : EReal := Ideal.liftRound Ideal.roundHalfEven x
/-- A group's zero point. -/
def zp (v : Fin 128 → EReal) : EReal := rnd (Ideal.div (-(lo v)) (sc v))
/-- The code of the group's value `x`. -/
def code (v : Fin 128 → EReal) (x : EReal) : EReal :=
  min ((15 : ℝ) : EReal) (max 0 (rnd (Ideal.div x (sc v)) + zp v))

/-- The extended real of a natural number. -/
def nat (n : ℕ) : EReal := ((n : ℝ) : EReal)

/-- Rounding a real between 0 and 15 gives an integer between 0 and 15. -/
theorem round_mem {r : ℝ} (h0 : 0 ≤ r) (h1 : r ≤ 15) : 0 ≤ Ideal.roundHalfEven r ∧ Ideal.roundHalfEven r ≤ 15 := by
  have f0 : 0 ≤ ⌊r⌋ := Int.floor_nonneg.2 h0
  have f1 : ⌊r⌋ ≤ 15 := by
    have : (⌊r⌋ : ℝ) ≤ 15 := (Int.floor_le r).trans h1
    exact_mod_cast this
  have key : ¬ (r - ⌊r⌋ < 1 / 2) → ⌊r⌋ ≤ 14 := fun h => by
    have : (⌊r⌋ : ℝ) < 15 := by linarith
    have : ⌊r⌋ < 15 := by exact_mod_cast this
    omega
  unfold Ideal.roundHalfEven
  dsimp only
  split_ifs with h2 h3 h4
  · exact ⟨f0, f1⟩
  · have := key h2; constructor <;> omega
  · exact ⟨f0, f1⟩
  · have := key h2; constructor <;> omega

/-- An integer between 0 and 15 is one of the first sixteen natural numbers. -/
theorem nat_of_int {z : ℤ} (h0 : 0 ≤ z) (h1 : z ≤ 15) : ∃ n : ℕ, n ≤ 15 ∧ ((z : ℝ) : EReal) = nat n := by
  refine ⟨z.toNat, by omega, ?_⟩
  unfold nat
  congr 1
  have : ((z.toNat : ℤ) : ℝ) = (z : ℝ) := by rw [Int.toNat_of_nonneg h0]
  rw [← this]; norm_cast

theorem lo_le (v : Fin 128 → EReal) : lo v ≤ 0 := min_le_right _ _
theorem le_hi (v : Fin 128 → EReal) : 0 ≤ hi v := le_max_right _ _

/-- Every group's zero point is one of the first sixteen natural numbers, whatever the group holds. -/
theorem zp_nat (v : Fin 128 → EReal) : ∃ n : ℕ, n ≤ 15 ∧ zp v = nat n := by
  have zero : ∃ n : ℕ, n ≤ 15 ∧ rnd 0 = nat n := by
    refine ⟨0, by omega, ?_⟩
    show Ideal.liftRound _ ((0 : ℝ) : EReal) = _
    rw [Ideal.liftRound_coe]
    simp [Ideal.roundHalfEven, nat]
  have hl := lo_le v
  have hh := le_hi v
  unfold zp sc
  generalize lo v = l at hl ⊢
  generalize hi v = h at hh ⊢
  by_cases e : h = l
  · have hl0 : l = 0 := le_antisymm hl (e ▸ hh)
    subst hl0
    rw [if_pos e]
    simpa [Ideal.div] using zero
  · rw [if_neg e]
    by_cases inf : h = ⊤ ∨ l = ⊥
    · have hs : h - l = ⊤ := by
        rcases inf with rfl | rfl
        · exact EReal.top_sub (ne_of_lt (lt_of_le_of_lt hl EReal.zero_lt_top))
        · exact EReal.sub_bot (ne_of_gt (lt_of_lt_of_le EReal.bot_lt_zero hh))
      have h15 : (0 : EReal) < (((15 : ℝ)⁻¹ : ℝ) : EReal) := by exact_mod_cast (by norm_num : (0 : ℝ) < 15⁻¹)
      have hd : Ideal.div (h - l) ((15 : ℝ) : EReal) = ⊤ := by
        rw [hs]
        unfold Ideal.div
        rw [if_neg (by exact_mod_cast (by norm_num : (15 : ℝ) ≠ 0)), ← EReal.coe_inv, EReal.top_mul_of_pos h15]
      rw [hd]
      simpa [Ideal.div] using zero
    · rw [not_or] at inf
      have hlt : l ≠ ⊤ := ne_of_lt (lt_of_le_of_lt hl EReal.zero_lt_top)
      have hhb : h ≠ ⊥ := ne_of_gt (lt_of_lt_of_le EReal.bot_lt_zero hh)
      lift l to ℝ using ⟨hlt, inf.2⟩
      lift h to ℝ using ⟨inf.1, hhb⟩
      have hl' : l ≤ 0 := by exact_mod_cast hl
      have hh' : 0 ≤ h := by exact_mod_cast hh
      have e' : h ≠ l := fun c => e (by rw [c])
      have pos : 0 < h - l := by
        rcases lt_or_eq_of_le (hl'.trans hh') with p | p
        · linarith
        · exact absurd p.symm e'
      have hd : Ideal.div ((h : EReal) - (l : EReal)) ((15 : ℝ) : EReal) = (((h - l) / 15 : ℝ) : EReal) := by
        unfold Ideal.div
        rw [if_neg (by exact_mod_cast (by norm_num : (15 : ℝ) ≠ 0)), ← EReal.coe_inv, ← EReal.coe_sub, ← EReal.coe_mul, div_eq_mul_inv]
      have hs : (h - l) / 15 ≠ 0 := by positivity
      have hq : Ideal.div (-(l : EReal)) (((h - l) / 15 : ℝ) : EReal) = ((-l / ((h - l) / 15) : ℝ) : EReal) := by
        unfold Ideal.div
        rw [if_neg (by exact_mod_cast hs), ← EReal.coe_inv, ← EReal.coe_neg, ← EReal.coe_mul]
        exact congrArg _ (div_eq_mul_inv _ _).symm
      rw [hd, hq]
      show ∃ n : ℕ, n ≤ 15 ∧ Ideal.liftRound _ _ = nat n
      rw [Ideal.liftRound_coe]
      have sp : 0 < (h - l) / 15 := by positivity
      have m := round_mem (r := -l / ((h - l) / 15)) (div_nonneg (by linarith) sp.le) (by
        rw [div_le_iff₀ sp]; linarith)
      exact nat_of_int m.1 m.2

/-- Every code is one of the first sixteen natural numbers, whatever the group and the value are. -/
theorem code_nat (v : Fin 128 → EReal) (x : EReal) : ∃ n : ℕ, n ≤ 15 ∧ code v x = nat n := by
  obtain ⟨z, hz, e⟩ := zp_nat v
  unfold code
  rw [e]
  have h15 : (0 : EReal) ≤ ((15 : ℝ) : EReal) := by exact_mod_cast (by norm_num : (0 : ℝ) ≤ 15)
  generalize Ideal.div x (sc v) = q
  induction q with
  | bot => exact ⟨0, by omega, by simp [rnd, nat, h15]⟩
  | top =>
    refine ⟨15, le_rfl, ?_⟩
    show min _ (max 0 (⊤ + nat z)) = _
    rw [nat, EReal.top_add_coe, max_eq_right le_top, min_eq_left le_top, nat]
    norm_num
  | coe r =>
    have : rnd (r : EReal) + nat z = (((Ideal.roundHalfEven r + z : ℤ) : ℝ) : EReal) := by
      show ((Ideal.roundHalfEven r : ℝ) : EReal) + ((z : ℝ) : EReal) = _
      rw [← EReal.coe_add]; push_cast; rfl
    rw [this]
    generalize Ideal.roundHalfEven r + z = k
    have e2 : min ((15 : ℝ) : EReal) (max 0 ((k : ℝ) : EReal)) = (((min 15 (max 0 k) : ℤ) : ℝ) : EReal) := by
      push_cast
      rw [EReal.coe_strictMono.monotone.map_min, EReal.coe_strictMono.monotone.map_max, EReal.coe_zero]
    rw [e2]
    exact nat_of_int (by omega) (by omega)

/-- A natural number converted to a 32-bit integer is that integer. -/
theorem fptosi_nat (n : ℕ) (h : n < 2 ^ 31) : (FloatOps.fptosi (F := Ideal) (φ := .f32) 32 (nat n)) = BitVec.ofNat 32 n := by
  show BitVec.ofInt 32 (Ideal.toIntClamped _ _ (((n : ℝ)) : EReal)) = _
  have : ∀ a b : ℤ, a ≤ 0 → (n : ℤ) ≤ b → Ideal.toIntClamped a b ((n : ℝ) : EReal) = (n : ℤ) := fun a b ha hb => by
    show max a (min b (Ideal.truncInt (n : ℝ))) = _
    rw [show Ideal.truncInt (n : ℝ) = (n : ℤ) by simp [Ideal.truncInt]]
    omega
  rw [this _ _ (by norm_num) (by norm_num at h ⊢; omega)]
  exact BitVec.ofInt_ofNat 32 n

/-- The 128 values of a row of 3072 that make up group `g`. -/
def grow (row : Fin 3072 → EReal) (g : Fin 24) : Fin 128 → EReal := fun k => row ⟨128 * g.val + k.val, by omega⟩

/-- The group of a column. -/
def gOf (k : Fin 3072) : Fin 24 := ⟨k.val / 128, by omega⟩

/-- The code of column `k` of a row. -/
def codeAt (row : Fin 3072 → EReal) (k : Fin 3072) : EReal := code (grow row (gOf k)) (row k)

/-- The dequantised activation of column `k` of a row. -/
def actAt (row : Fin 3072 → EReal) (k : Fin 3072) : EReal :=
  (codeAt row k - zp (grow row (gOf k))) * sc (grow row (gOf k))

/-- Two codes packed in a byte, the first in its low half. -/
def pack2 (a b : EReal) : BitVec 8 := (FloatOps.fptosi (F := Ideal) (φ := .f32) 32 (a + b * nat 16)).setWidth 8

/-- The packed byte of column `j`: the codes of columns `2 j` and `2 j + 1`. -/
def packAt (row : Fin 3072 → EReal) (j : Fin 1536) : BitVec 8 :=
  pack2 (codeAt row ⟨2 * j.val, by omega⟩) (codeAt row ⟨2 * j.val + 1, by omega⟩)

/-- A float as a byte. -/
def byte (a : EReal) : BitVec 8 := (FloatOps.fptosi (F := Ideal) (φ := .f32) 32 a).setWidth 8

/-- Half `t` of a packed weight: its low four bits, or its high four. -/
def nib (p : BitVec 8) (t : Fin 2) : BitVec 32 :=
  if t = 0 then p.setWidth 32 &&& 15#32 else (p.setWidth 32).sshiftRight 4

/-- A weight dequantised: half `t` of the byte `p`, less the zero point `z`, times the scale `s`. -/
def deq (p : BitVec 8) (t : Fin 2) (z : BitVec 8) (s : EReal) : EReal :=
  ((((nib p t).toInt : ℝ) : EReal) - (((z.setWidth 32).toInt : ℝ) : EReal)) * s

/-- A small natural number as a byte. -/
theorem byte_nat (n : ℕ) (h : n ≤ 15) : byte (nat n) = (BitVec.ofNat 32 n).setWidth 8 := by
  unfold byte
  rw [fptosi_nat n (by omega)]

/-- Packing by a weighted sum is packing by a shift and an or. -/
theorem pack2_eq {a b : EReal} (ha : ∃ n : ℕ, n ≤ 15 ∧ a = nat n) (hb : ∃ n : ℕ, n ≤ 15 ∧ b = nat n) :
    pack2 a b = ((byte a).setWidth 32 ||| (byte b).setWidth 32 <<< 4).setWidth 8 := by
  obtain ⟨p, hp, rfl⟩ := ha
  obtain ⟨q, hq, rfl⟩ := hb
  have e : nat p + nat q * nat 16 = nat (p + q * 16) := by
    unfold nat
    rw [← EReal.coe_mul, ← EReal.coe_add]
    push_cast
    rfl
  unfold pack2
  rw [e, fptosi_nat _ (by omega), byte_nat p hp, byte_nat q hq]
  have key : ∀ p q : Fin 16, (BitVec.ofNat 32 (p.val + q.val * 16)).setWidth 8
      = (((BitVec.ofNat 32 p.val).setWidth 8).setWidth 32 ||| ((BitVec.ofNat 32 q.val).setWidth 8).setWidth 32 <<< 4).setWidth 8 := by
    decide +kernel
  exact key ⟨p, by omega⟩ ⟨q, by omega⟩

/-- A difference of small natural numbers taken on integers is the difference of the numbers. -/
theorem sub_nat {a b : EReal} (ha : ∃ n : ℕ, n ≤ 15 ∧ a = nat n) (hb : ∃ n : ℕ, n ≤ 15 ∧ b = nat n) :
    (((((byte a).setWidth 32 - (byte b).setWidth 32 : BitVec 32).toInt : ℝ)) : EReal) = a - b := by
  obtain ⟨p, hp, rfl⟩ := ha
  obtain ⟨q, hq, rfl⟩ := hb
  rw [byte_nat p hp, byte_nat q hq]
  have key : ∀ p q : Fin 16, (((BitVec.ofNat 32 p.val).setWidth 8).setWidth 32 - ((BitVec.ofNat 32 q.val).setWidth 8).setWidth 32 : BitVec 32).toInt
      = (p.val : ℤ) - (q.val : ℤ) := by
    decide +kernel
  rw [key ⟨p, by omega⟩ ⟨q, by omega⟩]
  unfold nat
  rw [← EReal.coe_sub]
  push_cast
  rfl

/-- Shifting a word right by four. -/
theorem shrsi_four (x : BitVec 32) (u : ArithUnit) : IntOp.shrsi u x 4#32 = x.sshiftRight 4 := by
  unfold IntOp.shrsi
  simp

/-- Shifting a word left by four. -/
theorem shli_four (x : BitVec 32) (u : ArithUnit) : IntOp.shli u x 4#32 = x <<< 4 := by
  unfold IntOp.shli
  simp

end Cert.Quant

end
-- ==== Proof.Body.KGroup.lean ====
/- What the kernel's stored arrays hold over the extended reals: scales, zero points, packed codes, activations. -/
module

public import proofs.«01_k».proof.Proof.Body.Group
public import proofs.«01_k».proof.Proof.Body.Scalar
public import Idealize.ShloMosaic.Lib.Pipeline.ValueKit.Point
public import Idealize.ShloMosaic.Lib.ValueIdx
public import Idealize.ShloMosaic.Lib.Pointwise

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Quant

/-- A row of a group's block. -/
def rowOf (v : Vec Ideal S256x128 .bf16) (r : Fin 256) : Fin 128 → EReal := fun k => v (ValueIdx.ix2 r k)

/-- Widening a block changes nothing. -/
theorem pay4_eq (v : Vec Ideal S256x128 .bf16) : k0_pay4 (F := Ideal) v = v := by
  funext i
  unfold k0_pay4
  rw [shapeCast_self]
  rfl

/-- A group's least value, row by row. -/
theorem pay5_apply (v : Vec Ideal S256x128 .bf16) (r : Fin 256) :
    k0_pay5 (F := Ideal) v (ValueIdx.ix2 r 0) = lo (rowOf v r) := by
  unfold k0_pay5 lo
  rw [pay4_eq]
  pointwise
  rw [bits_top]
  rfl

/-- A group's scale, row by row. -/
theorem scaleG_apply (v : Vec Ideal S256x128 .bf16) (r : Fin 256) :
    scaleG (F := Ideal) v (ValueIdx.ix2 r 0) = sc (rowOf v r) := by
  have h5 := pay5_apply v r
  unfold scaleG k0_pay6 sc hi
  rw [pay4_eq]
  generalize k0_pay5 (F := Ideal) v = p at h5 ⊢
  pointwise
  rw [bits_bot, bits_15, h5]
  rfl

/-- A group's zero point, row by row. -/
theorem zeroG_apply (v : Vec Ideal S256x128 .bf16) (r : Fin 256) :
    zeroG (F := Ideal) v (ValueIdx.ix2 r 0) = zp (rowOf v r) := by
  have h5 := pay5_apply v r
  have h6 := scaleG_apply v r
  unfold scaleG at h6
  unfold zeroG k0_pay7 zp
  generalize k0_pay5 (F := Ideal) v = p at h5 ⊢
  generalize k0_pay6 (F := Ideal) v = q at h6 ⊢
  pointwise
  rw [h5, h6, zero_sub]
  rfl

/-- A group's codes. -/
theorem codeG_apply (v : Vec Ideal S256x128 .bf16) (r : Fin 256) (k : Fin 128) :
    codeG (F := Ideal) v (ValueIdx.ix2 r k) = code (rowOf v r) (v (ValueIdx.ix2 r k)) := by
  have h6 := scaleG_apply v r
  have h7 := zeroG_apply v r
  unfold scaleG at h6
  unfold zeroG at h7
  unfold codeG k0_pay9 k0_pay8 code
  rw [pay4_eq]
  generalize k0_pay6 (F := Ideal) v = p at h6 ⊢
  generalize k0_pay7 (F := Ideal) v = q at h7 ⊢
  pointwise
  change min (Ideal.ofBits .f32 0x41700000#32) (max 0 (rnd (Ideal.div (v (ValueIdx.ix2 r k)) (p (ValueIdx.ix2 r 0)))
    + q (ValueIdx.ix2 r 0))) = _
  rw [h6, h7, bits_15]

/-- A group's dequantised activations. -/
theorem actG_apply (v : Vec Ideal S256x128 .bf16) (r : Fin 256) (k : Fin 128) :
    actG (F := Ideal) v (ValueIdx.ix2 r k)
      = (code (rowOf v r) (v (ValueIdx.ix2 r k)) - zp (rowOf v r)) * sc (rowOf v r) := by
  have h6 := scaleG_apply v r
  have h7 := zeroG_apply v r
  have h9 := codeG_apply v r k
  unfold scaleG at h6
  unfold zeroG at h7
  unfold codeG at h9
  unfold actG k0_pay10
  rw [shapeCast_self]
  generalize k0_pay9 (F := Ideal) _ _ = u at h9 ⊢
  generalize k0_pay6 (F := Ideal) v = p at h6 ⊢
  generalize k0_pay7 (F := Ideal) v = q at h7 ⊢
  pointwise
  change (u (ValueIdx.ix2 r k) - q (ValueIdx.ix2 r 0)) * p (ValueIdx.ix2 r 0) = _
  rw [h6, h7, h9]

/-- A selection on an equality of integers. -/
theorem select_cmpi_eq {α : Type} {w : ℕ} (a b : BitVec w) (x y : α) :
    Scalar.select (IntOp.cmpi .eq a b) x y = if a = b then x else y := by
  unfold Scalar.select IntOp.cmpi
  have : (a == b) = decide (a = b) := rfl
  by_cases h : a = b <;> simp [this, h]

/-- The word of 16 is 16. -/
theorem bits_16 : Ideal.ofBits .f32 0x41800000#32 = nat 16 := by
  simp [Ideal.ofBits, Ideal.ieee, nat, -EReal.coe_mul]; norm_num

/-- The matrix that packs: weight 1 at row `2 c`, weight 16 at row `2 c + 1`, zero elsewhere. -/
theorem pay3_apply (i : Fin 256) (c : Fin 128) : k0_pay3 (F := Ideal) (ValueIdx.ix2 i c)
    = if i.val = 2 * c.val then 1 else if i.val = 2 * c.val + 1 then nat 16 else 0 := by
  have e1 : (BitVec.ofNat 32 i.val = IntOp.muli 2#32 (BitVec.ofNat 32 c.val)) ↔ i.val = 2 * c.val := by
    unfold IntOp.muli
    rw [← BitVec.toNat_inj]; simp; omega
  have e2 : (BitVec.ofNat 32 i.val = IntOp.addi (IntOp.muli 2#32 (BitVec.ofNat 32 c.val)) 1#32) ↔ i.val = 2 * c.val + 1 := by
    unfold IntOp.muli IntOp.addi
    rw [← BitVec.toNat_inj]; simp; omega
  unfold k0_pay3
  pointwise
  rw [select_cmpi_eq, select_cmpi_eq, bits_16]
  simp only [← e1, ← e2]

/-- A sum against weights 1 at `a` and 16 at `a + 1` has those two terms alone. -/
theorem sum_two (f : Fin 128 → EReal) (w : Fin 128 → EReal) (a : ℕ) (ha : a + 1 < 128)
    (hw : ∀ x : Fin 128, w x = if x.val = a then 1 else if x.val = a + 1 then nat 16 else 0) :
    ∑ x, f x * w x = f ⟨a, by omega⟩ + f ⟨a + 1, ha⟩ * nat 16 := by
  rw [← Finset.sum_subset (Finset.subset_univ {(⟨a, by omega⟩ : Fin 128), ⟨a + 1, ha⟩}) (fun x _ hx => ?_),
    Finset.sum_pair (by simp)]
  · rw [hw, hw]; simp
  · simp only [Finset.mem_insert, Finset.mem_singleton, not_or, Fin.ext_iff] at hx
    rw [hw, if_neg hx.1, if_neg hx.2, mul_zero]

/-- A sum against weights that are zero is zero. -/
theorem sum_none (f : Fin 128 → EReal) (w : Fin 128 → EReal) (hw : ∀ x : Fin 128, w x = 0) : ∑ x, f x * w x = 0 :=
  Finset.sum_eq_zero fun x _ => by rw [hw, mul_zero]

/-- The packed codes of a chunk, as two sums. -/
theorem packG_sum (v w : Vec Ideal S256x128 .bf16) (r : Fin 256) (c : Fin 128) :
    packG (F := Ideal) v w (ValueIdx.ix2 r c) = byte
      (∑ x : Fin 128, codeG v (ValueIdx.ix2 r x) * k0_pay3 (F := Ideal) (ValueIdx.ix2 (⟨x.val, by omega⟩ : Fin 256) c)
        + ∑ x : Fin 128, codeG w (ValueIdx.ix2 r x) * k0_pay3 (F := Ideal) (ValueIdx.ix2 (⟨128 + x.val, by omega⟩ : Fin 256) c)) := by
  unfold packG
  pointwise
  rfl

/-- The packed codes in the first half of a chunk come of its first group, -/
theorem packG_low (v w : Vec Ideal S256x128 .bf16) (r : Fin 256) (c : Fin 128) (h : c.val < 64) :
    packG (F := Ideal) v w (ValueIdx.ix2 r c)
      = pack2 (codeG v (ValueIdx.ix2 r (⟨2 * c.val, by omega⟩ : Fin 128))) (codeG v (ValueIdx.ix2 r (⟨2 * c.val + 1, by omega⟩ : Fin 128))) := by
  rw [packG_sum, sum_two (fun x => codeG v (ValueIdx.ix2 r x)) _ (2 * c.val) (by omega) (fun x => pay3_apply _ _),
    sum_none (fun x => codeG w (ValueIdx.ix2 r x)) _ (fun x => by
      rw [pay3_apply, if_neg (by dsimp only; omega), if_neg (by dsimp only; omega)]), add_zero]
  rfl

/-- and those in the second half of its second group. -/
theorem packG_high (v w : Vec Ideal S256x128 .bf16) (r : Fin 256) (c : Fin 128) (h : 64 ≤ c.val) :
    packG (F := Ideal) v w (ValueIdx.ix2 r c)
      = pack2 (codeG w (ValueIdx.ix2 r (⟨2 * c.val - 128, by omega⟩ : Fin 128))) (codeG w (ValueIdx.ix2 r (⟨2 * c.val - 128 + 1, by omega⟩ : Fin 128))) := by
  rw [packG_sum, sum_two (fun x => codeG w (ValueIdx.ix2 r x)) _ (2 * c.val - 128) (by omega) (fun x => by
      rw [pay3_apply]
      refine if_congr (by dsimp only; omega) rfl (if_congr (by dsimp only; omega) rfl rfl)),
    sum_none (fun x => codeG v (ValueIdx.ix2 r x)) _ (fun x => by
      rw [pay3_apply, if_neg (by dsimp only; omega), if_neg (by dsimp only; omega)]), zero_add]
  rfl

/-- Entering a column writes that column alone. -/
theorem enter_apply (n : ℕ) (hn : n < 24) (s : FVec Ideal S256x1 .f32) (acc : FVec Ideal S256x24 .f32) (r : Fin 256) (g : Fin 24) :
    enter n s acc (ValueIdx.ix2 r g) = if g.val = n then s (ValueIdx.ix2 r 0) else acc (ValueIdx.ix2 r g) := by
  have e : (BitVec.ofNat 32 g.val = BitVec.ofNat 32 n) ↔ g.val = n := by
    rw [← BitVec.toNat_inj]; simp; omega
  unfold enter
  rw [shapeCast_self]
  pointwise
  rw [select_cmpi_eq]
  simp only [← e]
  rfl

/-- The table after `n` groups holds the first `n` columns, and zero beyond. -/
theorem table_apply (s : Fin 24 → FVec Ideal S256x1 .f32) (n : ℕ) (hn : n ≤ 24) (r : Fin 256) (g : Fin 24) (hg : g.val < n) :
    table s n (ValueIdx.ix2 r g) = s g (ValueIdx.ix2 r 0) := by
  induction n with
  | zero => omega
  | succ n ih =>
    show enter n (s (Fin.ofNat 24 n)) (table s n) (ValueIdx.ix2 r g) = _
    rw [enter_apply n (by omega)]
    split_ifs with h
    · congr 2
      apply Fin.ext
      show n % 24 = g.val
      omega
    · exact ih (by omega) (by omega)

/-- A row of the input. -/
def rowX (x : Vec Ideal S256x3072 .bf16) (r : Fin 256) : Fin 3072 → EReal := fun k => x (ValueIdx.ix2 r k)

/-- A row of a group's block is the group's part of the row. -/
theorem rowOf_grp (x : Vec Ideal S256x3072 .bf16) (r : Fin 256) (g : Fin 24) : rowOf (grp x g) r = grow (rowX x r) g := by
  funext k
  unfold rowOf grp grow rowX
  refine (View.ld_apply (X := x) (r := colRect h3072 g) (x := (ValueIdx.ix2 r k : S256x128.Idx))).trans ?_
  congr 1
  funext a
  apply Fin.ext
  match a with
  | ⟨0, _⟩ => show 0 + 1 * r.val = r.val; omega
  | ⟨1, _⟩ => show 128 * g.val + 1 * k.val = 128 * g.val + k.val; omega

/-- The codes of a group's block. -/
theorem codeG_grp (x : Vec Ideal S256x3072 .bf16) (r : Fin 256) (g : Fin 24) (k : Fin 128) (j : Fin 3072)
    (h : j.val = 128 * g.val + k.val) : codeG (grp x g) (ValueIdx.ix2 r k) = codeAt (rowX x r) j := by
  have hg : gOf j = g := Fin.ext (by show j.val / 128 = g.val; omega)
  have hj : grp x g (ValueIdx.ix2 r k) = rowX x r j := by
    refine (congrFun (rowOf_grp x r g) k).trans ?_
    exact congrArg (rowX x r) (Fin.ext h.symm)
  rw [codeG_apply, rowOf_grp, hj, codeAt, hg]

/-- The scales' array. -/
theorem scalesArr_apply (x : Vec Ideal S256x3072 .bf16) (r : Fin 256) (g : Fin 24) :
    scalesArr x (ValueIdx.ix2 r g) = sc (grow (rowX x r) g) := by
  unfold scalesArr
  rw [table_apply _ 24 le_rfl r g g.isLt, scaleG_apply, rowOf_grp]

/-- The zero points' array. -/
theorem zerosArr_apply (x : Vec Ideal S256x3072 .bf16) (r : Fin 256) (g : Fin 24) :
    zerosArr x (ValueIdx.ix2 r g) = byte (zp (grow (rowX x r) g)) := by
  show byte (table (fun g => zeroG (grp x g)) 24 (ValueIdx.ix2 r g)) = _
  rw [table_apply _ 24 le_rfl r g g.isLt, zeroG_apply, rowOf_grp]

/-- The activations' array. -/
theorem actArr_apply (x : Vec Ideal S256x3072 .bf16) (r : Fin 256) (k : Fin 3072) :
    actArr x (ValueIdx.ix2 r k) = actAt (rowX x r) k := by
  have hm : k.val = 128 * (gOf k).val + (⟨k.val % 128, by omega⟩ : Fin 128).val := by
    show k.val = 128 * (k.val / 128) + k.val % 128; omega
  have h9 := codeG_grp x r (gOf k) ⟨k.val % 128, by omega⟩ k hm
  show actG (grp x (gOf k)) (ValueIdx.ix2 r (⟨k.val % 128, by omega⟩ : Fin 128)) = _
  rw [codeG_apply] at h9
  rw [actG_apply, h9, rowOf_grp]
  rfl

/-- The packed codes' array. -/
theorem codesArr_apply (x : Vec Ideal S256x3072 .bf16) (r : Fin 256) (j : Fin 1536) :
    codesArr x (ValueIdx.ix2 r j) = packAt (rowX x r) j := by
  have hj := j.isLt
  show packG (grp x (fstOf ⟨j.val / 128, by omega⟩)) (grp x (sndOf ⟨j.val / 128, by omega⟩)) (ValueIdx.ix2 r (⟨j.val % 128, by omega⟩ : Fin 128)) = _
  unfold packAt
  by_cases h : j.val % 128 < 64
  · rw [packG_low _ _ _ _ h, codeG_grp x r _ _ ⟨2 * j.val, by omega⟩ (by show _ = 128 * (2 * (j.val / 128)) + 2 * (j.val % 128); dsimp only; omega),
      codeG_grp x r _ _ ⟨2 * j.val + 1, by omega⟩ (by show _ = 128 * (2 * (j.val / 128)) + (2 * (j.val % 128) + 1); dsimp only; omega)]
  · rw [packG_high _ _ _ _ (by dsimp only; omega), codeG_grp x r _ _ ⟨2 * j.val, by omega⟩ (by show _ = 128 * (2 * (j.val / 128) + 1) + (2 * (j.val % 128) - 128); dsimp only; omega),
      codeG_grp x r _ _ ⟨2 * j.val + 1, by omega⟩ (by show _ = 128 * (2 * (j.val / 128) + 1) + (2 * (j.val % 128) - 128 + 1); dsimp only; omega)]

end Cert.KernelIdeal.Body

end
-- ==== Proof.Body.KWeight.lean ====
/- What one block of weights and one block of the result hold over the extended reals. -/
module

public import proofs.«01_k».proof.Proof.Body.Group
public import proofs.«01_k».proof.Proof.Body.Scalar
public import Idealize.ShloMosaic.Lib.Pipeline.ValueKit.Point
public import Idealize.ShloMosaic.Lib.ValueIdx
public import Idealize.ShloMosaic.Lib.Pointwise

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Quant

/-- Two arrays of rows interleaved: row `k` is row `k / 2` of the first or of the second as `k` is even or odd. -/
theorem interleave_apply (A B : IVec S64x1024 32) (k : Fin 128) (n : Fin 1024) :
    shapeCast S128x1024 (concatenate S64x2x1024 1
      [⟨S64x1x1024, shapeCast S64x1x1024 A shapeCasts_S64x1024_S64x1x1024⟩,
       ⟨S64x1x1024, shapeCast S64x1x1024 B shapeCasts_S64x1024_S64x1x1024⟩]
      concatenates_S64x1x1024_S64x1x1024_S64x2x1024_d1 : IVec S64x2x1024 32) shapeCasts_S64x2x1024_S128x1024 (ValueIdx.ix2 k n)
    = if k.val % 2 < 1 then A (ValueIdx.ix2 (⟨k.val / 2, by omega⟩ : Fin 64) n) else B (ValueIdx.ix2 (⟨k.val / 2, by omega⟩ : Fin 64) n) := by
  pointwise
  split <;> rfl

/-- One group's dequantised weights at an index: row `k` is half `k % 2` of packed row `k / 2`. -/
theorem weightG_apply (ws wz : FVec Ideal S24x1024 .bf16) (p : Vec Ideal S64x1024 .i8) (g : Fin 24) (k : Fin 128) (n : Fin 1024) :
    weightG ws wz p g (ValueIdx.ix2 k n)
      = ((((nib (p (ValueIdx.ix2 (⟨k.val / 2, by omega⟩ : Fin 64) n)) ⟨k.val % 2, by omega⟩).toInt : ℝ) : EReal)
          - wz (ValueIdx.ix2 g n)) * ws (ValueIdx.ix2 g n) := by
  have e := interleave_apply (andi (extui 32 p natLt_8_32) (broadcast S64x1024 15#32)) (shrsi (extui 32 p natLt_8_32) (broadcast S64x1024 4#32)) k n
  have e2 : (if k.val % 2 < 1 then andi (extui 32 p natLt_8_32) (broadcast S64x1024 15#32) (ValueIdx.ix2 (⟨k.val / 2, by omega⟩ : Fin 64) n)
      else shrsi (extui 32 p natLt_8_32) (broadcast S64x1024 4#32) (ValueIdx.ix2 (⟨k.val / 2, by omega⟩ : Fin 64) n))
      = nib (p (ValueIdx.ix2 (⟨k.val / 2, by omega⟩ : Fin 64) n)) ⟨k.val % 2, by omega⟩ := by
    unfold nib
    by_cases h : k.val % 2 < 1
    · rw [if_pos h, if_pos (Fin.ext (by show k.val % 2 = 0; omega))]
      rfl
    · rw [if_neg h, if_neg (fun c => h (by have : k.val % 2 = 0 := Fin.ext_iff.1 c; omega))]
      exact shrsi_four _ _
  rw [e2] at e
  rw [← e]
  unfold weightG
  generalize shapeCast S128x1024 _ _ = N
  pointwise
  rfl

/-- The dequantised weight block at an index. -/
theorem weightArr_apply (w : Vec Ideal S1536x1024 .i8) (s : Vec Ideal S24x1024 .f32) (z : Vec Ideal S24x1024 .i8) (k : Fin 3072) (n : Fin 1024) :
    weightArr w s z (ValueIdx.ix2 k n) = deq (w (ValueIdx.ix2 (⟨k.val / 2, by omega⟩ : Fin 1536) n)) ⟨k.val % 2, by omega⟩
      (z (ValueIdx.ix2 (gOf k) n)) (s (ValueIdx.ix2 (gOf k) n)) := by
  have hk := k.isLt
  unfold weightArr
  refine (concatenate_ofFn_apply (t := S3072x1024) (s₁ := S128x1024) (0 : Fin 2)
    (fun g : Fin 24 => weightG (F := Ideal) (k0_pay257 s) (k0_pay258 z) (packedG w g) g) _ rfl 128 rfl (ValueIdx.ix2 k n) (gOf k) rfl
    (ValueIdx.ix2 (⟨k.val % 128, by omega⟩ : Fin 128) n) rfl (fun b hb => ?_)).trans ?_
  · match b with
    | ⟨0, _⟩ => exact absurd rfl hb
    | ⟨1, _⟩ => rfl
  · rw [weightG_apply]
    have e : packedG w (gOf k) (ValueIdx.ix2 (⟨k.val % 128 / 2, by omega⟩ : Fin 64) n) = w (ValueIdx.ix2 (⟨k.val / 2, by omega⟩ : Fin 1536) n) := by
      unfold packedG
      refine (View.ld_apply (X := w) (r := Rect.unit (s := S1536x1024) ![64 * (gOf k).val, 0] S64x1024.size (rowRect_inb (gOf k)))
        (x := (ValueIdx.ix2 (⟨k.val % 128 / 2, by omega⟩ : Fin 64) n : S64x1024.Idx))).trans ?_
      congr 1
      funext a
      apply Fin.ext
      match a with
      | ⟨0, _⟩ => show 64 * (k.val / 128) + 1 * (k.val % 128 / 2) = k.val / 2; omega
      | ⟨1, _⟩ => show 0 + 1 * n.val = n.val; omega
    have ht : (⟨k.val % 128 % 2, by omega⟩ : Fin 2) = ⟨k.val % 2, by omega⟩ := Fin.ext (by show k.val % 128 % 2 = k.val % 2; omega)
    unfold deq
    rw [← e, ← ht]
    rfl

/-- A block of the result at an index. -/
theorem outBlk_apply (a : Vec Ideal S256x3072 .bf16) (w : Vec Ideal S1536x1024 .i8) (s : Vec Ideal S24x1024 .f32) (z : Vec Ideal S24x1024 .i8)
    (r : Fin 256) (n : Fin 1024) : outBlk a w s z (ValueIdx.ix2 r n)
      = ∑ k : Fin 3072, a (ValueIdx.ix2 r k) * deq (w (ValueIdx.ix2 (⟨k.val / 2, by omega⟩ : Fin 1536) n)) ⟨k.val % 2, by omega⟩
      (z (ValueIdx.ix2 (gOf k) n)) (s (ValueIdx.ix2 (gOf k) n)) := by
  unfold outBlk k0_pay294
  simp only [← weightArr_apply]
  generalize weightArr w s z = W
  pointwise
  rfl

end Cert.KernelIdeal.Body

end
-- ==== Proof.Body.RQuant.lean ====
/- What the reference's quantiser computes: scales, zero points, codes, packed codes, activations. -/
module

public import proofs.«01_k».proof.Proof.Gen.ReferenceIdeal.Read
public import proofs.«01_k».proof.Proof.Body.Scalar
public import Idealize.ShloMosaic.Lib.Pipeline.ValueKit.Point
public import Idealize.ShloMosaic.Lib.ValueIdx
public import Idealize.ShloMosaic.Lib.Pointwise
public import Idealize.ShloMosaic.Lib.Tactic.CleanTypes

@[expose] public section

set_option maxRecDepth 16384

noncomputable section

namespace Cert.ReferenceIdeal.Value

open Cert.ReferenceIdeal Cert.ReferenceIdeal.Gen Cert.ReferenceIdeal.Read Cert.Quant
open Idealize.ShloMosaic Idealize.ShloMosaic.TcCoe Idealize.ShloMosaic.Tactic Idealize.SL.Sem

/-- A row of the input. -/
def rowR (x0 : Vec Ideal S2x128x3072 .bf16) (b : Fin 2) (s : Fin 128) : Fin 3072 → EReal := fun k => x0 (ValueIdx.ix3 b s k)

/-- The input by groups. -/
theorem v1_apply (x0 : Vec Ideal S2x128x3072 .bf16) (b : Fin 2) (s : Fin 128) (g : Fin 24) (k : Fin 128) :
    val_main_v1 (F := Ideal) x0 (ValueIdx.ix4 b s g k) = grow (rowR x0 b s) g k := by
  rw [val_main_v1_apply, val_main_v0_apply]
  unfold grow rowR
  show x0 _ = x0 _
  congr 1
  funext a
  apply Fin.ext
  match a with
  | ⟨0, _⟩ => show (((b.val * 128 + s.val) * 24 + g.val) * 128 + k.val) / 393216 = b.val; omega
  | ⟨1, _⟩ => show (((b.val * 128 + s.val) * 24 + g.val) * 128 + k.val) / 3072 % 128 = s.val; omega
  | ⟨2, _⟩ => show (((b.val * 128 + s.val) * 24 + g.val) * 128 + k.val) % 3072 = 128 * g.val + k.val; omega

/-- A group's least value. -/
theorem v4_apply (x0 : Vec Ideal S2x128x3072 .bf16) (b : Fin 2) (s : Fin 128) (g : Fin 24) :
    val_main_v4 (F := Ideal) x0 (ValueIdx.ix3 b s g) = lo (grow (rowR x0 b s) g) := by
  have h1 := fun k => v1_apply x0 b s g k
  rw [val_main_v4_apply, val_main_v3_apply]
  unfold val_main_v2 val_main_cst val_main_cst_0 lo
  generalize val_main_v1 (F := Ideal) x0 = v at h1 ⊢
  clean_types
  pointwise
  rw [bits_top, ← funext h1]
  rfl

/-- A group's greatest value. -/
theorem v7_apply (x0 : Vec Ideal S2x128x3072 .bf16) (b : Fin 2) (s : Fin 128) (g : Fin 24) :
    val_main_v7 (F := Ideal) x0 (ValueIdx.ix3 b s g) = hi (grow (rowR x0 b s) g) := by
  have h1 := fun k => v1_apply x0 b s g k
  rw [val_main_v7_apply, val_main_v6_apply]
  unfold val_main_v5 val_main_cst_1 val_main_cst_2 hi
  generalize val_main_v1 (F := Ideal) x0 = v at h1 ⊢
  clean_types
  pointwise
  rw [bits_bot, ← funext h1]
  rfl

/-- A group's scale. -/
theorem v12_apply' (x0 : Vec Ideal S2x128x3072 .bf16) (b : Fin 2) (s : Fin 128) (g : Fin 24) :
    val_main_v12 (F := Ideal) x0 (ValueIdx.ix3 b s g) = sc (grow (rowR x0 b s) g) := by
  rw [val_main_v12_apply, val_main_v8_apply, val_main_v11_apply, val_main_v9_apply, v4_apply, v7_apply, val_main_v10_apply]
  unfold val_main_cst_3 sc
  pointwise
  rw [bits_15, val_main_call0_v1_apply, val_main_call0_v0_apply, val_main_cst_4_apply]
  simp

/-- A group's zero point. -/
theorem v15_apply' (x0 : Vec Ideal S2x128x3072 .bf16) (b : Fin 2) (s : Fin 128) (g : Fin 24) :
    val_main_v15 (F := Ideal) x0 (ValueIdx.ix3 b s g) = zp (grow (rowR x0 b s) g) := by
  rw [val_main_v15_apply, val_main_v14_apply, val_main_v13_apply, v4_apply, v12_apply']
  rfl

/-- Broadcasting a group's value along the group reads it at the group. -/
theorem idx_group (b : Fin 2) (s : Fin 128) (g : Fin 24) (k : Fin 128) :
    idx_main_v16 (idx_main_v17 (ValueIdx.ix4 b s g k)) = ValueIdx.ix3 b s g := by
  funext a
  match a with
  | ⟨0, _⟩ => rfl
  | ⟨1, _⟩ => rfl
  | ⟨2, _⟩ => rfl

/-- The codes. -/
theorem v23_apply' (x0 : Vec Ideal S2x128x3072 .bf16) (b : Fin 2) (s : Fin 128) (g : Fin 24) (k : Fin 128) :
    val_main_v23 (F := Ideal) x0 (ValueIdx.ix4 b s g k) = code (grow (rowR x0 b s) g) (grow (rowR x0 b s) g k) := by
  rw [val_main_v23_apply, val_main_call3_v2_apply, val_main_v22_apply, val_main_v19_apply, val_main_v18_apply, v1_apply,
    val_main_v17_apply, val_main_v16_apply, idx_group, v12_apply', val_main_v21_apply, val_main_v20_apply,
    show idx_main_v20 (idx_main_v21 (ValueIdx.ix4 b s g k)) = ValueIdx.ix3 b s g from idx_group b s g k, v15_apply',
    val_main_call3_v4_apply, val_main_call3_v3_apply, val_main_call3_v1_apply, val_main_call3_v0_apply,
    val_main_cst_5_apply, val_main_cst_6_apply]
  show min (Ideal.ofBits .f32 0x41700000#32) (max (Ideal.ofBits .f32 0x00000000#32) _) = _
  rw [bits_15, Ideal.ofBits_zero_f32]
  rfl

/-- The codes as bytes. -/
theorem v25_apply' (x0 : Vec Ideal S2x128x3072 .bf16) (b : Fin 2) (s : Fin 128) (g : Fin 24) (k : Fin 128) :
    val_main_v25 (F := Ideal) x0 (ValueIdx.ix4 b s g k) = byte (code (grow (rowR x0 b s) g) (grow (rowR x0 b s) g k)) := by
  rw [val_main_v25_apply, val_main_v24_apply, v23_apply']
  rfl

/-- The zero points as bytes. -/
theorem v27_apply' (x0 : Vec Ideal S2x128x3072 .bf16) (b : Fin 2) (s : Fin 128) (g : Fin 24) :
    val_main_v27 (F := Ideal) x0 (ValueIdx.ix3 b s g) = byte (zp (grow (rowR x0 b s) g)) := by
  rw [val_main_v27_apply, val_main_v26_apply, v15_apply']
  rfl

/-- A group's value at the place of column `j` in it. -/
theorem code_grow (row : Fin 3072 → EReal) (j : Fin 3072) (g : Fin 24) (k : Fin 128) (h : j.val = 128 * g.val + k.val) :
    code (grow row g) (grow row g k) = codeAt row j := by
  have hg : gOf j = g := Fin.ext (by show j.val / 128 = g.val; omega)
  have hk : grow row g k = row j := congrArg row (Fin.ext h.symm)
  unfold codeAt
  rw [hg, hk]

/-- The codes, column by column. -/
theorem v29_apply' (x0 : Vec Ideal S2x128x3072 .bf16) (b : Fin 2) (s : Fin 128) (j : Fin 3072) :
    val_main_v29 (F := Ideal) x0 (ValueIdx.ix3 b s j) = (byte (codeAt (rowR x0 b s) j)).setWidth 32 := by
  have hj := j.isLt
  rw [val_main_v29_apply]
  have e : idx_main_v29 (ValueIdx.ix3 b s j) = ValueIdx.ix4 b s (⟨j.val / 128, by omega⟩ : Fin 24) (⟨j.val % 128, by omega⟩ : Fin 128) := by
    funext a
    apply Fin.ext
    match a with
    | ⟨0, _⟩ => show ((b.val * 128 + s.val) * 3072 + j.val) / 393216 = b.val; omega
    | ⟨1, _⟩ => show ((b.val * 128 + s.val) * 3072 + j.val) / 3072 % 128 = s.val; omega
    | ⟨2, _⟩ => show ((b.val * 128 + s.val) * 3072 + j.val) / 128 % 24 = j.val / 128; omega
    | ⟨3, _⟩ => show ((b.val * 128 + s.val) * 3072 + j.val) % 128 = j.val % 128; omega
  rw [e, val_main_v28_apply, v25_apply', code_grow _ j _ _ (by show j.val = 128 * (j.val / 128) + j.val % 128; omega)]

/-- The packed codes. -/
theorem v35_apply' (x0 : Vec Ideal S2x128x3072 .bf16) (b : Fin 2) (s : Fin 128) (j : Fin 1536) :
    val_main_v35 (F := Ideal) x0 (ValueIdx.ix3 b s j) = packAt (rowR x0 b s) j := by
  have e := fun j => v29_apply' x0 b s j
  unfold packAt
  refine Eq.trans ?_ (pack2_eq (code_nat _ _) (code_nat _ _)).symm
  change _ = ((byte (codeAt (rowR x0 b s) _)).setWidth 32 ||| (byte (codeAt (rowR x0 b s) _)).setWidth 32 <<< 4).setWidth 8
  rw [← e, ← e]
-- (code_nat (grow (rowR x0 b s) (gOf _)) (rowR x0 b s _)) (code_nat (grow (rowR x0 b s) (gOf _)) (rowR x0 b s _)), ← e, ← e]
  rw [val_main_v35_apply, val_main_v34_apply, val_main_v33_apply, val_main_v32_apply]
  unfold val_main_v30 val_main_v31 val_main_c
  generalize val_main_v29 (F := Ideal) x0 = c
  clean_types
  pointwise
  rw [shli_four, show (⟨2 * j.val + 1, by omega⟩ : Fin 3072) = ⟨1 + 2 * j.val, by omega⟩ from Fin.ext (Nat.add_comm _ _)]
  rfl

/-- The dequantised activations, group by group. -/
theorem v45_apply' (x0 : Vec Ideal S2x128x3072 .bf16) (b : Fin 2) (s : Fin 128) (g : Fin 24) (k : Fin 128) :
    val_main_v45 (F := Ideal) x0 (ValueIdx.ix4 b s g k)
      = (code (grow (rowR x0 b s) g) (grow (rowR x0 b s) g k) - zp (grow (rowR x0 b s) g)) * sc (grow (rowR x0 b s) g) := by
  rw [val_main_v45_apply, val_main_v41_apply, val_main_v40_apply, val_main_v36_apply, v25_apply', val_main_v39_apply, val_main_v38_apply,
    show idx_main_v38 (idx_main_v39 (ValueIdx.ix4 b s g k)) = ValueIdx.ix3 b s g from idx_group b s g k, val_main_v37_apply, v27_apply',
    val_main_v44_apply, val_main_v43_apply,
    show idx_main_v43 (idx_main_v44 (ValueIdx.ix4 b s g k)) = ValueIdx.ix3 b s g from idx_group b s g k, val_main_v42_apply, v12_apply']
  show ((((_ : BitVec 32).toInt : ℝ)) : EReal) * sc _ = _
  rw [← sub_nat (code_nat _ _) (zp_nat _)]
  rfl

/-- The dequantised activations as the product reads them: row by row, halves apart. -/
theorem v47_apply' (x0 : Vec Ideal S2x128x3072 .bf16) (r : Fin 256) (t : Fin 2) (k : Fin 1536) :
    val_main_v47 (F := Ideal) x0 (ValueIdx.ix3 r t k)
      = actAt (rowR x0 ⟨r.val / 128, by omega⟩ ⟨r.val % 128, by omega⟩) ⟨2 * k.val + t.val, by omega⟩ := by
  rw [val_main_v47_apply, val_main_v46_apply]
  have e : idx_main_v46 (idx_main_v47 (ValueIdx.ix3 r t k)) = ValueIdx.ix4 (⟨r.val / 128, by omega⟩ : Fin 2) (⟨r.val % 128, by omega⟩ : Fin 128)
      (⟨(2 * k.val + t.val) / 128, by omega⟩ : Fin 24) (⟨(2 * k.val + t.val) % 128, by omega⟩ : Fin 128) := by
    funext a
    apply Fin.ext
    match a with
    | ⟨0, _⟩ => show ((r.val * 1536 + k.val) * 2 + t.val) / 393216 = r.val / 128; omega
    | ⟨1, _⟩ => show ((r.val * 1536 + k.val) * 2 + t.val) / 3072 % 128 = r.val % 128; omega
    | ⟨2, _⟩ => show ((r.val * 1536 + k.val) * 2 + t.val) / 128 % 24 = (2 * k.val + t.val) / 128; omega
    | ⟨3, _⟩ => show ((r.val * 1536 + k.val) * 2 + t.val) % 128 = (2 * k.val + t.val) % 128; omega
  rw [e, v45_apply', code_grow _ ⟨2 * k.val + t.val, by omega⟩ _ _ (by show _ = 128 * ((2 * k.val + t.val) / 128) + (2 * k.val + t.val) % 128; dsimp only; omega)]
  rfl

end Cert.ReferenceIdeal.Value

end
-- ==== Proof.Body.RProd.lean ====
/- The reference's dequantised weights and its product. -/
module

public import proofs.«01_k».proof.Proof.Body.RQuant
public import Idealize.ShloMosaic.Lib.Pipeline.ValueKit.Point
public import Idealize.ShloMosaic.Lib.ValueIdx
public import Idealize.ShloMosaic.Lib.Pointwise
public import Idealize.ShloMosaic.Lib.Tactic.CleanTypes

@[expose] public section

set_option maxRecDepth 16384

noncomputable section

namespace Cert.ReferenceIdeal.Value

open Cert.ReferenceIdeal Cert.ReferenceIdeal.Gen Cert.ReferenceIdeal.Read Cert.Quant
open Idealize.ShloMosaic Idealize.ShloMosaic.TcCoe Idealize.ShloMosaic.Tactic Idealize.SL.Sem

open Cert.Quant Cert.ReferenceIdeal.Read

/-- The two halves of the packed weights joined along a leading axis. -/
theorem join_apply (A B : IVec S1x24x64x10240 32) (t : Fin 2) (g : Fin 24) (i : Fin 64) (n : Fin 10240) :
    (concatenate S2x24x64x10240 0 [⟨S1x24x64x10240, A⟩, ⟨S1x24x64x10240, B⟩] concatenates_S1x24x64x10240_S1x24x64x10240_S2x24x64x10240_d0
      : IVec S2x24x64x10240 32) (ValueIdx.ix4 t g i n)
    = if t.val < 1 then A (ValueIdx.ix4 (0 : Fin 1) g i n) else B (ValueIdx.ix4 (0 : Fin 1) g i n) := by
  pointwise
  split
  · exact congrArg A (congrArg (fun z : Fin 1 => (ValueIdx.ix4 z g i n : S1x24x64x10240.Idx)) (Subsingleton.elim _ _))
  · exact congrArg B (congrArg (fun z : Fin 1 => (ValueIdx.ix4 z g i n : S1x24x64x10240.Idx)) (Subsingleton.elim _ _))

/-- Row `64 g + i` of the packed weights, as words. -/
theorem v49_apply' (x1 : Vec Ideal S1536x10240 .i8) (g : Fin 24) (i : Fin 64) (n : Fin 10240) :
    val_main_v49 (F := Ideal) x1 (ValueIdx.ix3 g i n) = (x1 (ValueIdx.ix2 (⟨64 * g.val + i.val, by omega⟩ : Fin 1536) n)).setWidth 32 := by
  rw [val_main_v49_apply, val_main_v48_apply]
  have e : idx_main_v49 (ValueIdx.ix3 g i n) = ValueIdx.ix2 (⟨64 * g.val + i.val, by omega⟩ : Fin 1536) n := by
    funext a
    apply Fin.ext
    match a with
    | ⟨0, _⟩ => show ((g.val * 64 + i.val) * 10240 + n.val) / 10240 = 64 * g.val + i.val; omega
    | ⟨1, _⟩ => show ((g.val * 64 + i.val) * 10240 + n.val) % 10240 = n.val; omega
  rw [e]

/-- The unpacked weights, as words. -/
theorem v61_apply' (x1 : Vec Ideal S1536x10240 .i8) (t : Fin 2) (g : Fin 24) (i : Fin 64) (n : Fin 10240) :
    val_main_v61 (F := Ideal) x1 (ValueIdx.ix4 t g i n) = nib (x1 (ValueIdx.ix2 (⟨64 * g.val + i.val, by omega⟩ : Fin 1536) n)) t := by
  unfold val_main_v61
  refine (join_apply _ _ t g i n).trans ?_
  have e : idx_main_v59 (ValueIdx.ix4 (0 : Fin 1) g i n) = ValueIdx.ix3 g i n := by
    funext a
    match a with
    | ⟨0, _⟩ => rfl
    | ⟨1, _⟩ => rfl
    | ⟨2, _⟩ => rfl
  rw [val_main_v59_apply, val_main_v60_apply, show idx_main_v60 (ValueIdx.ix4 (0 : Fin 1) g i n) = ValueIdx.ix3 g i n from e, e,
    val_main_v56_apply, val_main_v58_apply, v49_apply', val_main_v55_apply, val_main_v57_apply, val_main_c_7_apply, val_main_c_8_apply, shrsi_four]
  unfold nib
  by_cases h : t.val < 1
  · rw [if_pos h, if_pos (Fin.ext (by show t.val = 0; omega))]
    rfl
  · rw [if_neg h, if_neg (fun c => h (by have : t.val = 0 := Fin.ext_iff.1 c; omega))]

/-- Broadcasting a group's value along the group and the halves reads it at the group. -/
theorem idx_weight (t : Fin 2) (g : Fin 24) (i : Fin 64) (n : Fin 10240) :
    idx_main_v52 (idx_main_v63 (idx_main_v64 (ValueIdx.ix4 t g i n))) = ValueIdx.ix2 g n := by
  funext a
  match a with
  | ⟨0, _⟩ => rfl
  | ⟨1, _⟩ => rfl

/-- The dequantised weights, group by group. -/
theorem v68_apply' (x1 : Vec Ideal S1536x10240 .i8) (x2 : Vec Ideal S24x10240 .f32) (x3 : Vec Ideal S24x10240 .i8)
    (t : Fin 2) (g : Fin 24) (i : Fin 64) (n : Fin 10240) :
    val_main_v68 (F := Ideal) x1 x2 x3 (ValueIdx.ix4 t g i n)
      = deq (x1 (ValueIdx.ix2 (⟨64 * g.val + i.val, by omega⟩ : Fin 1536) n)) t (x3 (ValueIdx.ix2 g n)) (x2 (ValueIdx.ix2 g n)) := by
  rw [val_main_v68_apply, val_main_v65_apply, val_main_v62_apply, v61_apply', val_main_v64_apply, val_main_v63_apply, val_main_v52_apply, idx_weight,
    val_main_v51_apply, val_main_v50_apply, val_main_v67_apply, val_main_v66_apply, val_main_v54_apply,
    show idx_main_v54 (idx_main_v66 (idx_main_v67 (ValueIdx.ix4 t g i n))) = ValueIdx.ix2 g n from idx_weight t g i n, val_main_v53_apply]
  rfl

/-- The dequantised weights as the product reads them: halves apart, packed row by packed row. -/
theorem v69_apply' (x1 : Vec Ideal S1536x10240 .i8) (x2 : Vec Ideal S24x10240 .f32) (x3 : Vec Ideal S24x10240 .i8)
    (t : Fin 2) (k : Fin 1536) (n : Fin 10240) :
    val_main_v69 (F := Ideal) x1 x2 x3 (ValueIdx.ix3 t k n)
      = deq (x1 (ValueIdx.ix2 k n)) t (x3 (ValueIdx.ix2 (⟨k.val / 64, by omega⟩ : Fin 24) n)) (x2 (ValueIdx.ix2 (⟨k.val / 64, by omega⟩ : Fin 24) n)) := by
  rw [val_main_v69_apply]
  have e : idx_main_v69 (ValueIdx.ix3 t k n) = ValueIdx.ix4 t (⟨k.val / 64, by omega⟩ : Fin 24) (⟨k.val % 64, by omega⟩ : Fin 64) n := by
    funext a
    apply Fin.ext
    match a with
    | ⟨0, _⟩ => show ((t.val * 1536 + k.val) * 10240 + n.val) / 15728640 = t.val; omega
    | ⟨1, _⟩ => show ((t.val * 1536 + k.val) * 10240 + n.val) / 655360 % 24 = k.val / 64; omega
    | ⟨2, _⟩ => show ((t.val * 1536 + k.val) * 10240 + n.val) / 10240 % 64 = k.val % 64; omega
    | ⟨3, _⟩ => show ((t.val * 1536 + k.val) * 10240 + n.val) % 10240 = n.val; omega
  rw [e, v68_apply', show (⟨64 * (k.val / 64) + k.val % 64, by omega⟩ : Fin 1536) = k from Fin.ext (by show 64 * (k.val / 64) + k.val % 64 = k.val; omega)]

/-- The product, a sum over the halves and the packed rows. -/
theorem dot_apply (A : FVec Ideal S256x2x1536 .bf16) (B : FVec Ideal S2x1536x10240 .bf16) (r : Fin 256) (n : Fin 10240) :
    (Host.dotGeneral dot_S256x2x1536_S2x1536x10240_S256x10240_21_10_0_2_n_n none A B : FVec Ideal S256x10240 .f32) (ValueIdx.ix2 r n)
      = ∑ k : Fin 1536, ∑ t : Fin 2, A (ValueIdx.ix3 r t k) * B (ValueIdx.ix3 t k n) := by
  pointwise
  rfl

/-- A sum over the columns is a sum over the pairs of columns. -/
theorem sum_pairs (f : Fin 3072 → EReal) :
    (∑ k : Fin 1536, ∑ t : Fin 2, f ⟨2 * k.val + t.val, by omega⟩) = ∑ k : Fin 3072, f k := by
  rw [← Fintype.sum_prod_type (f := fun p : Fin 1536 × Fin 2 => f ⟨2 * p.1.val + p.2.val, by omega⟩)]
  refine Fintype.sum_equiv (finProdFinEquiv (m := 1536) (n := 2)) _ _ (fun p => congrArg f (Fin.ext ?_))
  show 2 * p.1.val + p.2.val = p.2.val + 2 * p.1.val
  omega

/-- The product of the dequantised activations and weights, a sum over the columns. -/
def prodAt (row : Fin 3072 → EReal) (x1 : Vec Ideal S1536x10240 .i8) (x2 : Vec Ideal S24x10240 .f32) (x3 : Vec Ideal S24x10240 .i8)
    (n : Fin 10240) : EReal :=
  ∑ k : Fin 3072, actAt row k * deq (x1 (ValueIdx.ix2 (⟨k.val / 2, by omega⟩ : Fin 1536) n)) ⟨k.val % 2, by omega⟩
    (x3 (ValueIdx.ix2 (gOf k) n)) (x2 (ValueIdx.ix2 (gOf k) n))

/-- The product before it is laid out in batches. -/
theorem v70_apply' (x0 : Vec Ideal S2x128x3072 .bf16) (x1 : Vec Ideal S1536x10240 .i8) (x2 : Vec Ideal S24x10240 .f32)
    (x3 : Vec Ideal S24x10240 .i8) (r : Fin 256) (n : Fin 10240) :
    val_main_v70 (F := Ideal) x0 x1 x2 x3 (ValueIdx.ix2 r n)
      = prodAt (rowR x0 ⟨r.val / 128, by omega⟩ ⟨r.val % 128, by omega⟩) x1 x2 x3 n := by
  unfold val_main_v70 prodAt
  rw [dot_apply, ← sum_pairs]
  refine Finset.sum_congr rfl fun k _ => Finset.sum_congr rfl fun t _ => ?_
  rw [v47_apply', v69_apply']
  have hk : (⟨(2 * k.val + t.val) / 2, by omega⟩ : Fin 1536) = k := Fin.ext (by show (2 * k.val + t.val) / 2 = k.val; omega)
  have ht : (⟨(2 * k.val + t.val) % 2, by omega⟩ : Fin 2) = t := Fin.ext (by show (2 * k.val + t.val) % 2 = t.val; omega)
  have hg : gOf ⟨2 * k.val + t.val, by omega⟩ = (⟨k.val / 64, by omega⟩ : Fin 24) :=
    Fin.ext (by show (2 * k.val + t.val) / 128 = k.val / 64; omega)
  rw [hg]
  dsimp only
  rw [hk, ht]

/-- The reference's product. -/
theorem v72_apply' (x0 : Vec Ideal S2x128x3072 .bf16) (x1 : Vec Ideal S1536x10240 .i8) (x2 : Vec Ideal S24x10240 .f32)
    (x3 : Vec Ideal S24x10240 .i8) (b : Fin 2) (s : Fin 128) (n : Fin 10240) :
    val_main_v72 (F := Ideal) x0 x1 x2 x3 (ValueIdx.ix3 b s n) = prodAt (rowR x0 b s) x1 x2 x3 n := by
  rw [val_main_v72_apply, val_main_v71_apply]
  have e : idx_main_v72 (ValueIdx.ix3 b s n) = ValueIdx.ix2 (⟨b.val * 128 + s.val, by omega⟩ : Fin 256) n := by
    funext a
    apply Fin.ext
    match a with
    | ⟨0, _⟩ => show ((b.val * 128 + s.val) * 10240 + n.val) / 10240 = b.val * 128 + s.val; omega
    | ⟨1, _⟩ => show ((b.val * 128 + s.val) * 10240 + n.val) % 10240 = n.val; omega
  rw [e, v70_apply']
  have hb : (⟨(b.val * 128 + s.val) / 128, by omega⟩ : Fin 2) = b := Fin.ext (by show (b.val * 128 + s.val) / 128 = b.val; omega)
  have hs : (⟨(b.val * 128 + s.val) % 128, by omega⟩ : Fin 128) = s := Fin.ext (by show (b.val * 128 + s.val) % 128 = s.val; omega)
  dsimp only
  rw [hb, hs]
  rfl

end Cert.ReferenceIdeal.Value

end
-- ==== Proof.Body.Equation.lean ====
/- What the kernel leaves, read off the arguments over the extended reals, is what the reference leaves. -/
module

public import proofs.«01_k».proof.Proof.Body.Results
public import proofs.«01_k».proof.Proof.Body.KGroup
public import proofs.«01_k».proof.Proof.Body.KWeight
public import proofs.«01_k».proof.Proof.Body.RProd

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Quant

variable (m : (ℓ : Loc nD τ sig) → Buf (Elt Ideal) ℓ)

/-- A row of the activations, as the launch finds them. -/
theorem rowX_xAll (c : Dev nD) (b : Fin 2) (s : Fin 128) :
    rowX (xAll m c) ⟨b.val * 128 + s.val, by omega⟩ = fun k => m ((c.tc : Thread nD τ).loc main_arg0) (ValueIdx.ix3 b s k) := by
  funext k
  unfold rowX
  rw [xAll_apply]
  have hb : (⟨(b.val * 128 + s.val) / 128, by omega⟩ : Fin 2) = b := Fin.ext (by show (b.val * 128 + s.val) / 128 = b.val; omega)
  have hs : (⟨(b.val * 128 + s.val) % 128, by omega⟩ : Fin 128) = s := Fin.ext (by show (b.val * 128 + s.val) % 128 = s.val; omega)
  dsimp only
  rw [hb, hs]

/-- An array of 256 rows laid out in batches of 128. -/
theorem batches_apply {e : EltTy} {C : ℕ} (X : Vec Ideal ⟨2, ![256, C]⟩ e) (h : Shape.ShapeCasts ⟨2, ![256, C]⟩ ⟨3, ![2, 128, C]⟩)
    (b : Fin 2) (s : Fin 128) (n : Fin C) :
    shapeCast ⟨3, ![2, 128, C]⟩ X h (ValueIdx.ix3 b s n) = X (ValueIdx.ix2 (⟨b.val * 128 + s.val, by omega⟩ : Fin 256) n) := by
  refine shapeCast_apply X h _ _ ?_
  refine (Shape.rowMajor_val_two (d := ![256, C]) _).trans ((Shape.rowMajor_val_three (d := ![2, 128, C]) _).trans ?_).symm
  rfl

/-- The product over the extended reals: a sum over the columns of the dequantised activations times the dequantised weights. -/
theorem yArr_apply (c : Dev nD) (b : Fin 2) (s : Fin 128) (n : Fin 10240) :
    yArr m c (ValueIdx.ix2 (⟨b.val * 128 + s.val, by omega⟩ : Fin 256) n)
      = ∑ k : Fin 3072, actAt (fun k => m ((c.tc : Thread nD τ).loc main_arg0) (ValueIdx.ix3 b s k)) k
        * deq (m ((c.tc : Thread nD τ).loc main_arg1) (ValueIdx.ix2 (⟨k.val / 2, by omega⟩ : Fin 1536) n)) ⟨k.val % 2, by omega⟩
          (m ((c.tc : Thread nD τ).loc main_arg3) (ValueIdx.ix2 (gOf k) n)) (m ((c.tc : Thread nD τ).loc main_arg2) (ValueIdx.ix2 (gOf k) n)) := by
  have hn := n.isLt
  have hv : n.val / 1024 % 10 * 1024 + n.val % 1024 = n.val := by omega
  have h : (stepOf n.val).val * 1024 + (⟨n.val % 1024, by omega⟩ : Fin 1024).val < 10240 := by
    show n.val / 1024 % 10 * 1024 + n.val % 1024 < 10240
    omega
  have hc : (⟨(stepOf n.val).val * 1024 + (⟨n.val % 1024, by omega⟩ : Fin 1024).val, h⟩ : Fin 10240) = n := Fin.ext hv
  refine (outBlk_apply (actArr (xAll m c)) (iblk m c 1 (stepOf n.val)) (iblk m c 2 (stepOf n.val)) (iblk m c 3 (stepOf n.val))
    (⟨b.val * 128 + s.val, by omega⟩ : Fin 256) (⟨n.val % 1024, by omega⟩ : Fin 1024)).trans ?_
  refine Finset.sum_congr rfl fun k _ => ?_
  rw [actArr_apply, rowX_xAll, wBlk_apply m c (stepOf n.val) _ _ h, sBlk_apply m c (stepOf n.val) _ _ h, zBlk_apply m c (stepOf n.val) _ _ h, hc]

/-- Kernel and reference leave the same product. -/
theorem y_eq (c : Dev nD) : shapeCast S2x128x10240 (yArr m c) shapeCasts_S256x10240_S2x128x10240
    = Cert.ReferenceIdeal.Read.val_main_v72 (F := Ideal) (m ((c.tc : Thread nD τ).loc main_arg0)) (m ((c.tc : Thread nD τ).loc main_arg1))
        (m ((c.tc : Thread nD τ).loc main_arg2)) (m ((c.tc : Thread nD τ).loc main_arg3)) := by
  funext i
  rw [ValueIdx.eq_ix3 i]
  exact ((batches_apply (yArr m c) _ (i 0) (i 1) (i 2)).trans (yArr_apply m c (i 0) (i 1) (i 2))).trans
    (Cert.ReferenceIdeal.Value.v72_apply' _ _ _ _ (i 0) (i 1) (i 2)).symm

/-- Kernel and reference leave the same packed codes. -/
theorem codes_eq (c : Dev nD) : shapeCast S2x128x1536 (codesArr (xAll m c)) shapeCasts_S256x1536_S2x128x1536
    = Cert.ReferenceIdeal.Read.val_main_v35 (F := Ideal) (m ((c.tc : Thread nD τ).loc main_arg0)) := by
  funext i
  rw [ValueIdx.eq_ix3 i]
  refine ((batches_apply (codesArr (xAll m c)) _ (i 0) (i 1) (i 2)).trans ?_).trans
    (Cert.ReferenceIdeal.Value.v35_apply' _ (i 0) (i 1) (i 2)).symm
  exact (codesArr_apply (xAll m c) _ _).trans (congrArg (fun r => packAt r (i 2)) (rowX_xAll m c (i 0) (i 1)))

/-- Kernel and reference leave the same scales. -/
theorem scales_eq (c : Dev nD) : shapeCast S2x128x24 (scalesArr (xAll m c)) shapeCasts_S256x24_S2x128x24
    = Cert.ReferenceIdeal.Read.val_main_v12 (F := Ideal) (m ((c.tc : Thread nD τ).loc main_arg0)) := by
  funext i
  rw [ValueIdx.eq_ix3 i]
  refine ((batches_apply (scalesArr (xAll m c)) _ (i 0) (i 1) (i 2)).trans ?_).trans
    (Cert.ReferenceIdeal.Value.v12_apply' _ (i 0) (i 1) (i 2)).symm
  exact (scalesArr_apply (xAll m c) _ _).trans (congrArg (fun r => sc (grow r (i 2))) (rowX_xAll m c (i 0) (i 1)))

/-- Kernel and reference leave the same zero points. -/
theorem zeros_eq (c : Dev nD) : shapeCast S2x128x24 (zerosArr (xAll m c)) shapeCasts_S256x24_S2x128x24
    = Cert.ReferenceIdeal.Read.val_main_v27 (F := Ideal) (m ((c.tc : Thread nD τ).loc main_arg0)) := by
  funext i
  rw [ValueIdx.eq_ix3 i]
  refine ((batches_apply (zerosArr (xAll m c)) _ (i 0) (i 1) (i 2)).trans ?_).trans
    (Cert.ReferenceIdeal.Value.v27_apply' _ (i 0) (i 1) (i 2)).symm
  exact (zerosArr_apply (xAll m c) _ _).trans (congrArg (fun r => byte (zp (grow r (i 2)))) (rowX_xAll m c (i 0) (i 1)))

end Cert.KernelIdeal.Body

end
-- ==== Proof.Body.RRun.lean ====
/- What a run of the reference leaves. -/
module

public import proofs.«01_k».proof.Proof.Body.RProd
public import proofs.«01_k».proof.Proof.Gen.ReferenceIdeal.Run

@[expose] public section

set_option maxRecDepth 16384

noncomputable section

namespace Cert.ReferenceIdeal.Value

open Cert.ReferenceIdeal Cert.ReferenceIdeal.Gen Cert.ReferenceIdeal.Read Cert.Quant
open Idealize.ShloMosaic Idealize.ShloMosaic.TcCoe Idealize.ShloMosaic.Tactic Idealize.SL.Sem

variable (m : (ℓ : Loc nD τ sig) → Buf (Elt Ideal) ℓ) (ρ : Dev nD → PrngReg)

/-- The reference's product at the end of a run, as the chain of its operations' values. -/
theorem res72 (c : Dev nD) : res_main_v72 m c = val_main_v72 (F := Ideal) (m ((c.tc : Thread nD τ).loc main_arg0))
    (m ((c.tc : Thread nD τ).loc main_arg1)) (m ((c.tc : Thread nD τ).loc main_arg2)) (m ((c.tc : Thread nD τ).loc main_arg3)) := by
  unfold res_main_v72
  rfl

/-- The reference's packed codes at the end of a run. -/
theorem res35 (c : Dev nD) : res_main_v35 m c = val_main_v35 (F := Ideal) (m ((c.tc : Thread nD τ).loc main_arg0)) := by
  unfold res_main_v35
  rfl

/-- What a run of the reference leaves. -/
theorem run_values : θ_run defs (onTc (τ := τ) (main (F := Ideal))) ⟨m, fun _ => 0, ρ⟩ (fun r => ∀ c : Dev nD,
      r.2.mem ((c.tc : Thread nD τ).loc main_v72) = val_main_v72 (F := Ideal) (m ((c.tc : Thread nD τ).loc main_arg0))
        (m ((c.tc : Thread nD τ).loc main_arg1)) (m ((c.tc : Thread nD τ).loc main_arg2)) (m ((c.tc : Thread nD τ).loc main_arg3))
      ∧ r.2.mem ((c.tc : Thread nD τ).loc main_v35) = val_main_v35 (F := Ideal) (m ((c.tc : Thread nD τ).loc main_arg0))
      ∧ r.2.mem ((c.tc : Thread nD τ).loc main_v12) = val_main_v12 (F := Ideal) (m ((c.tc : Thread nD τ).loc main_arg0))
      ∧ r.2.mem ((c.tc : Thread nD τ).loc main_v27) = val_main_v27 (F := Ideal) (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h c).1.trans (res72 m c), (h c).2.1.trans (res35 m c), (h c).2.2.1.trans rfl,
    (h c).2.2.2.1.trans rfl, (h c).2.2.2.2⟩) (run m ρ)

end Cert.ReferenceIdeal.Value

end
-- ==== Proof.Body.Same.lean ====
/- The kernel and its idealization are the same program, printed twice: the idealization replaces no operation. So what is
   proved of the idealization at every number format holds of the kernel at its own. -/
module

public import proofs.«01_k».proof.Proof.Body.Frame
public import proofs.«01_k».proof.Proof.Gen.Kernel

@[expose] public section

set_option maxRecDepth 16384

noncomputable section

namespace Cert.Kernel.Body

open Idealize.ShloMosaic Idealize.SL.Sem

variable {F : FTy → Type} [FloatOps F]

/-- The two kernel bodies are the same. -/
theorem body_same : Cert.Kernel.cc0_w4a4_linear (F := F) = Cert.KernelIdeal.cc0_w4a4_linear (F := F) := by
  with_unfolding_all rfl

/-- The two tables of bodies are the same. -/
theorem defs₀_same : Cert.Kernel.defs₀ (F := F) = Cert.KernelIdeal.defs₀ (F := F) := by
  unfold Cert.Kernel.defs₀ Cert.KernelIdeal.defs₀
  refine congrArg (Defs.onTc (nD := Cert.Kernel.nD) (τ := Cert.Kernel.τ) (sig := Cert.Kernel.sig) (Val := Elt F) (Λ := Cert.Kernel.Λ₀))
    (funext fun l => funext fun a => ?_)
  match l, a with
  | ⟨0, _⟩, (t, s) =>
    dsimp only
    rw [body_same]
    rfl

/-- The two tables of bodies with the pipeline's own are the same. -/
theorem defs_same : Cert.Kernel.defs (F := F) = Cert.KernelIdeal.defs (F := F) :=
  congrArg (Pipeline.defs (Cert.Kernel.pcfgs (F := F))) defs₀_same

/-- The two programs around the bodies are the same. -/
theorem main_same : Cert.Kernel.main (F := F) = Cert.KernelIdeal.main (F := F) := by
  with_unfolding_all rfl

open Cert.Kernel in
/-- The frame: every execution terminates with the arguments as they were and every counter at zero. -/
theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) := by
  rw [defs_same, main_same]
  exact Cert.KernelIdeal.Body.frame m ρ

end Cert.Kernel.Body

end
-- ==== Proof.lean ====
/- The certificate's claim: the frames of the kernel, of its idealization and of the reference, and the agreement of
   kernel and reference over the extended reals in all four results. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Body.Equation
public import proofs.«01_k».proof.Proof.Body.RRun
public import proofs.«01_k».proof.Proof.Body.Same
public import Idealize.ShloMosaic.Lib.Claim
public import Idealize.ShloMosaic.Adequacy
public import Idealize.ShloMosaic.Init

@[expose] public section

set_option maxRecDepth 16384

noncomputable section

namespace Cert.Proof

open Idealize.ShloMosaic Idealize.SL.Sem Cert.Kernel

/-- The frame of the kernel: every execution ends with the arguments as they were and every counter at zero. -/
theorem kernel_frame : Cert.quiescent_Kernel := fun m ρ _ => Cert.Kernel.Body.frame m ρ

/-- The frame of the idealized kernel. -/
theorem ideal_frame : Cert.quiescent_KernelIdeal := fun m ρ _ => Cert.KernelIdeal.Body.frame m ρ

/-- The frame of the reference. -/
theorem reference_frame : Cert.quiescent_ReferenceIdeal := by
  intro m ρ _
  exact (θ_run Cert.ReferenceIdeal.defs _ _).mono (fun r h => ⟨fun c => (h c).2.2.2.2, sem_eq_zero_of_no_sems (by decide) r.2⟩)
    (Cert.ReferenceIdeal.Value.run_values m ρ)

/-- From equal arguments the idealized kernel and the reference leave equal results. -/
theorem agree : Cert.algebraic_KernelIdeal_ReferenceIdeal := by
  intro m g m' g' _ hagree
  refine ⟨_, _, _, _, (θ_run Cert.KernelIdeal.defs _ _).mono
    (fun _ h c => ⟨(h.1 c).1, (h.1 c).2.1, (h.1 c).2.2.1, (h.1 c).2.2.2, h.2 c⟩)
    (θ_run_and (Cert.KernelIdeal.Body.run_values m g) (Cert.KernelIdeal.Body.unchanged m g)), ?_⟩
  refine (θ_run Cert.ReferenceIdeal.defs _ _).mono (fun r h c => ?_) (Cert.ReferenceIdeal.Value.run_values m' g')
  obtain ⟨a0, a1, a2, a3⟩ := hagree c
  obtain ⟨h0, h1, h2, h3, h4⟩ := h c
  rw [a0, a1, a2, a3] at h0
  rw [a0] at h1 h2 h3
  exact ⟨h0.trans (Cert.KernelIdeal.Body.y_eq m c).symm, h1.trans (Cert.KernelIdeal.Body.codes_eq m c).symm,
    h2.trans (Cert.KernelIdeal.Body.scales_eq m c).symm, h3.trans (Cert.KernelIdeal.Body.zeros_eq m c).symm, h4⟩

/-- The claim. -/
theorem claim : Cert.Claim := ⟨Cert.Kernel.Gen.facts, Cert.KernelIdeal.Gen.facts, Cert.ReferenceIdeal.Gen.facts,
  kernel_frame, ideal_frame, reference_frame, trivial, agree⟩

end Cert.Proof

end
